-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1792x71x160 : Shape := ⟨3, ![1792, 71, 160]⟩
abbrev S1792x71 : Shape := ⟨2, ![1792, 71]⟩
abbrev S1792x160 : Shape := ⟨2, ![1792, 160]⟩
abbrev S71x160x1792 : Shape := ⟨3, ![71, 160, 1792]⟩
abbrev S71x1792 : Shape := ⟨2, ![71, 1792]⟩
abbrev S160x1792 : Shape := ⟨2, ![160, 1792]⟩
abbrev S2716x1792 : Shape := ⟨2, ![2716, 1792]⟩
abbrev S1792 : Shape := ⟨1, ![1792]⟩
abbrev S71x160x128 : Shape := ⟨3, ![71, 160, 128]⟩
abbrev S71x128 : Shape := ⟨2, ![71, 128]⟩
abbrev S160x128 : Shape := ⟨2, ![160, 128]⟩
abbrev S2716x128 : Shape := ⟨2, ![2716, 128]⟩
abbrev S2312x128 : Shape := ⟨2, ![2312, 128]⟩
abbrev S3584x128 : Shape := ⟨2, ![3584, 128]⟩
abbrev S72x128 : Shape := ⟨2, ![72, 128]⟩
abbrev S128 : Shape := ⟨1, ![128]⟩
abbrev S1x128 : Shape := ⟨2, ![1, 128]⟩
abbrev S1x160x128 : Shape := ⟨3, ![1, 160, 128]⟩
abbrev S128x128 : Shape := ⟨2, ![128, 128]⟩
abbrev S32x128 : Shape := ⟨2, ![32, 128]⟩
abbrev S96x128 : Shape := ⟨2, ![96, 128]⟩
abbrev S24x128 : Shape := ⟨2, ![24, 128]⟩
abbrev S96x256 : Shape := ⟨2, ![96, 256]⟩
abbrev S96x96 : Shape := ⟨2, ![96, 96]⟩
abbrev S8x72 : Shape := ⟨2, ![8, 72]⟩
abbrev S8x56 : Shape := ⟨2, ![8, 56]⟩
abbrev S8x64 : Shape := ⟨2, ![8, 64]⟩
abbrev S8x48 : Shape := ⟨2, ![8, 48]⟩
abbrev S8x16 : Shape := ⟨2, ![8, 16]⟩
abbrev S8x40 : Shape := ⟨2, ![8, 40]⟩
abbrev S8x32 : Shape := ⟨2, ![8, 32]⟩
abbrev S8x24 : Shape := ⟨2, ![8, 24]⟩
abbrev S8x8 : Shape := ⟨2, ![8, 8]⟩
abbrev S64x128 : Shape := ⟨2, ![64, 128]⟩
abbrev S48x128 : Shape := ⟨2, ![48, 128]⟩
abbrev S65x128 : Shape := ⟨2, ![65, 128]⟩
abbrev S49x128 : Shape := ⟨2, ![49, 128]⟩
abbrev S66x128 : Shape := ⟨2, ![66, 128]⟩
abbrev S50x128 : Shape := ⟨2, ![50, 128]⟩
abbrev S67x128 : Shape := ⟨2, ![67, 128]⟩
abbrev S51x128 : Shape := ⟨2, ![51, 128]⟩
abbrev S68x128 : Shape := ⟨2, ![68, 128]⟩
abbrev S52x128 : Shape := ⟨2, ![52, 128]⟩
abbrev S69x128 : Shape := ⟨2, ![69, 128]⟩
abbrev S53x128 : Shape := ⟨2, ![53, 128]⟩
abbrev S70x128 : Shape := ⟨2, ![70, 128]⟩
abbrev S54x128 : Shape := ⟨2, ![54, 128]⟩
abbrev S55x128 : Shape := ⟨2, ![55, 128]⟩
abbrev S56x128 : Shape := ⟨2, ![56, 128]⟩
abbrev S40x128 : Shape := ⟨2, ![40, 128]⟩
abbrev S8x128 : Shape := ⟨2, ![8, 128]⟩
abbrev S57x128 : Shape := ⟨2, ![57, 128]⟩
abbrev S41x128 : Shape := ⟨2, ![41, 128]⟩
abbrev S9x128 : Shape := ⟨2, ![9, 128]⟩
abbrev S58x128 : Shape := ⟨2, ![58, 128]⟩
abbrev S42x128 : Shape := ⟨2, ![42, 128]⟩
abbrev S10x128 : Shape := ⟨2, ![10, 128]⟩
abbrev S59x128 : Shape := ⟨2, ![59, 128]⟩
abbrev S43x128 : Shape := ⟨2, ![43, 128]⟩
abbrev S11x128 : Shape := ⟨2, ![11, 128]⟩
abbrev S60x128 : Shape := ⟨2, ![60, 128]⟩
abbrev S44x128 : Shape := ⟨2, ![44, 128]⟩
abbrev S12x128 : Shape := ⟨2, ![12, 128]⟩
abbrev S61x128 : Shape := ⟨2, ![61, 128]⟩
abbrev S45x128 : Shape := ⟨2, ![45, 128]⟩
abbrev S13x128 : Shape := ⟨2, ![13, 128]⟩
abbrev S62x128 : Shape := ⟨2, ![62, 128]⟩
abbrev S46x128 : Shape := ⟨2, ![46, 128]⟩
abbrev S14x128 : Shape := ⟨2, ![14, 128]⟩
abbrev S63x128 : Shape := ⟨2, ![63, 128]⟩
abbrev S47x128 : Shape := ⟨2, ![47, 128]⟩
abbrev S15x128 : Shape := ⟨2, ![15, 128]⟩
abbrev S16x128 : Shape := ⟨2, ![16, 128]⟩
abbrev S33x128 : Shape := ⟨2, ![33, 128]⟩
abbrev S25x128 : Shape := ⟨2, ![25, 128]⟩
abbrev S17x128 : Shape := ⟨2, ![17, 128]⟩
abbrev S34x128 : Shape := ⟨2, ![34, 128]⟩
abbrev S26x128 : Shape := ⟨2, ![26, 128]⟩
abbrev S18x128 : Shape := ⟨2, ![18, 128]⟩
abbrev S2x128 : Shape := ⟨2, ![2, 128]⟩
abbrev S35x128 : Shape := ⟨2, ![35, 128]⟩
abbrev S27x128 : Shape := ⟨2, ![27, 128]⟩
abbrev S19x128 : Shape := ⟨2, ![19, 128]⟩
abbrev S3x128 : Shape := ⟨2, ![3, 128]⟩
abbrev S36x128 : Shape := ⟨2, ![36, 128]⟩
abbrev S28x128 : Shape := ⟨2, ![28, 128]⟩
abbrev S20x128 : Shape := ⟨2, ![20, 128]⟩
abbrev S4x128 : Shape := ⟨2, ![4, 128]⟩
abbrev S37x128 : Shape := ⟨2, ![37, 128]⟩
abbrev S29x128 : Shape := ⟨2, ![29, 128]⟩
abbrev S21x128 : Shape := ⟨2, ![21, 128]⟩
abbrev S5x128 : Shape := ⟨2, ![5, 128]⟩
abbrev S38x128 : Shape := ⟨2, ![38, 128]⟩
abbrev S30x128 : Shape := ⟨2, ![30, 128]⟩
abbrev S22x128 : Shape := ⟨2, ![22, 128]⟩
abbrev S6x128 : Shape := ⟨2, ![6, 128]⟩
abbrev S39x128 : Shape := ⟨2, ![39, 128]⟩
abbrev S31x128 : Shape := ⟨2, ![31, 128]⟩
abbrev S23x128 : Shape := ⟨2, ![23, 128]⟩
abbrev S7x128 : Shape := ⟨2, ![7, 128]⟩

abbrev nBuf : Space → Nat
  | .hbm => 13
  | .vmem => 21
  | .smem => 0
  | _ => 0

abbrev bufTy : (tb : Table) → Fin (tcTables nBuf tb) → BufTy
  | .hbm, ⟨0, _⟩ => ⟨S1792x71x160, .i8⟩
  | .hbm, ⟨1, _⟩ => ⟨S1792x71, .f32⟩
  | .hbm, ⟨2, _⟩ => ⟨S1792x160, .bf16⟩
  | .hbm, ⟨3, _⟩ => ⟨S1792x160, .i8⟩
  | .hbm, ⟨4, _⟩ => ⟨S71x160x1792, .i8⟩
  | .hbm, ⟨5, _⟩ => ⟨S71x1792, .f32⟩
  | .hbm, ⟨6, _⟩ => ⟨S160x1792, .bf16⟩
  | .hbm, ⟨7, _⟩ => ⟨S160x1792, .i8⟩
  | .hbm, ⟨8, _⟩ => ⟨S2716x1792, .fp8e4m3⟩
  | .hbm, ⟨9, _⟩ => ⟨S1792, .f32⟩
  | .hbm, ⟨10, _⟩ => ⟨S71x1792, .f32⟩
  | .hbm, ⟨11, _⟩ => ⟨S160x1792, .fp8e4m3⟩
  | .hbm, ⟨12, _⟩ => ⟨S1792, .f32⟩
  | .local _ .vmem, ⟨0, _⟩ => ⟨S71x160x128, .i8⟩
  | .local _ .vmem, ⟨1, _⟩ => ⟨S71x160x128, .i8⟩
  | .local _ .vmem, ⟨2, _⟩ => ⟨S71x128, .f32⟩
  | .local _ .vmem, ⟨3, _⟩ => ⟨S71x128, .f32⟩
  | .local _ .vmem, ⟨4, _⟩ => ⟨S160x128, .bf16⟩
  | .local _ .vmem, ⟨5, _⟩ => ⟨S160x128, .bf16⟩
  | .local _ .vmem, ⟨6, _⟩ => ⟨S160x128, .i8⟩
  | .local _ .vmem, ⟨7, _⟩ => ⟨S160x128, .i8⟩
  | .local _ .vmem, ⟨8, _⟩ => ⟨S2716x128, .fp8e4m3⟩
  | .local _ .vmem, ⟨9, _⟩ => ⟨S2716x128, .fp8e4m3⟩
  | .local _ .vmem, ⟨10, _⟩ => ⟨S1792, .f32⟩
  | .local _ .vmem, ⟨11, _⟩ => ⟨S71x128, .f32⟩
  | .local _ .vmem, ⟨12, _⟩ => ⟨S71x128, .f32⟩
  | .local _ .vmem, ⟨13, _⟩ => ⟨S160x128, .fp8e4m3⟩
  | .local _ .vmem, ⟨14, _⟩ => ⟨S160x128, .fp8e4m3⟩
  | .local _ .vmem, ⟨15, _⟩ => ⟨S1792, .f32⟩
  | .local _ .vmem, ⟨16, _⟩ => ⟨S2312x128, .i32⟩
  | .local _ .vmem, ⟨17, _⟩ => ⟨S2312x128, .i32⟩
  | .local _ .vmem, ⟨18, _⟩ => ⟨S3584x128, .f32⟩
  | .local _ .vmem, ⟨19, _⟩ => ⟨S2716x128, .f32⟩
  | .local _ .vmem, ⟨20, _⟩ => ⟨S72x128, .f32⟩
  | _, _ => ⟨S1792x71x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![14], ![false]⟩

def k0_off1 (i : grid0.Coords) : Fin 1 → Nat :=
  let arg0 : BitVec 32 := BitVec.ofNat 32 (i 0).val
  let c128_i32_29 : BitVec 32 := 128#32
  let v115 : BitVec 32 := Scalar.muli arg0 c128_i32_29
  let v116 : Index := Scalar.indexCast v115
  ![v116.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S71x160x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S71x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2716x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S71x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1792x71x160 : Shape := ⟨3, ![1792, 71, 160]⟩
abbrev S1792x71 : Shape := ⟨2, ![1792, 71]⟩
abbrev S1792x160 : Shape := ⟨2, ![1792, 160]⟩
abbrev S2716x1792 : Shape := ⟨2, ![2716, 1792]⟩
abbrev S1792 : Shape := ⟨1, ![1792]⟩
abbrev S71x1792 : Shape := ⟨2, ![71, 1792]⟩
abbrev S160x1792 : Shape := ⟨2, ![160, 1792]⟩
abbrev S1792x1 : Shape := ⟨2, ![1792, 1]⟩
abbrev S1792x1x160 : Shape := ⟨3, ![1792, 1, 160]⟩
abbrev S1792x72x160 : Shape := ⟨3, ![1792, 72, 160]⟩
abbrev S1792x72 : Shape := ⟨2, ![1792, 72]⟩
abbrev S1792x72x1x160 : Shape := ⟨4, ![1792, 72, 1, 160]⟩
abbrev S1792x1x72x160 : Shape := ⟨4, ![1792, 1, 72, 160]⟩
abbrev S1792x72x72x160 : Shape := ⟨4, ![1792, 72, 72, 160]⟩
abbrev S1792x72x72 : Shape := ⟨3, ![1792, 72, 72]⟩
abbrev S1792x72x1 : Shape := ⟨3, ![1792, 72, 1]⟩
abbrev S1792x1x72 : Shape := ⟨3, ![1792, 1, 72]⟩
abbrev S1792x1x1 : Shape := ⟨3, ![1792, 1, 1]⟩
abbrev S1792x1x2 : Shape := ⟨3, ![1792, 1, 2]⟩
abbrev S1792x2 : Shape := ⟨2, ![1792, 2]⟩
abbrev S1792x1x3 : Shape := ⟨3, ![1792, 1, 3]⟩
abbrev S1792x3 : Shape := ⟨2, ![1792, 3]⟩
abbrev S1792x1x4 : Shape := ⟨3, ![1792, 1, 4]⟩
abbrev S1792x4 : Shape := ⟨2, ![1792, 4]⟩
abbrev S1792x1x5 : Shape := ⟨3, ![1792, 1, 5]⟩
abbrev S1792x5 : Shape := ⟨2, ![1792, 5]⟩
abbrev S1792x1x6 : Shape := ⟨3, ![1792, 1, 6]⟩
abbrev S1792x6 : Shape := ⟨2, ![1792, 6]⟩
abbrev S1792x1x7 : Shape := ⟨3, ![1792, 1, 7]⟩
abbrev S1792x7 : Shape := ⟨2, ![1792, 7]⟩
abbrev S1792x1x8 : Shape := ⟨3, ![1792, 1, 8]⟩
abbrev S1792x8 : Shape := ⟨2, ![1792, 8]⟩
abbrev S1792x1x9 : Shape := ⟨3, ![1792, 1, 9]⟩
abbrev S1792x9 : Shape := ⟨2, ![1792, 9]⟩
abbrev S1792x1x10 : Shape := ⟨3, ![1792, 1, 10]⟩
abbrev S1792x10 : Shape := ⟨2, ![1792, 10]⟩
abbrev S1792x1x11 : Shape := ⟨3, ![1792, 1, 11]⟩
abbrev S1792x11 : Shape := ⟨2, ![1792, 11]⟩
abbrev S1792x1x12 : Shape := ⟨3, ![1792, 1, 12]⟩
abbrev S1792x12 : Shape := ⟨2, ![1792, 12]⟩
abbrev S1792x1x13 : Shape := ⟨3, ![1792, 1, 13]⟩
abbrev S1792x13 : Shape := ⟨2, ![1792, 13]⟩
abbrev S1792x1x14 : Shape := ⟨3, ![1792, 1, 14]⟩
abbrev S1792x14 : Shape := ⟨2, ![1792, 14]⟩
abbrev S1792x1x15 : Shape := ⟨3, ![1792, 1, 15]⟩
abbrev S1792x15 : Shape := ⟨2, ![1792, 15]⟩
abbrev S1792x1x16 : Shape := ⟨3, ![1792, 1, 16]⟩
abbrev S1792x16 : Shape := ⟨2, ![1792, 16]⟩
abbrev S1792x1x17 : Shape := ⟨3, ![1792, 1, 17]⟩
abbrev S1792x17 : Shape := ⟨2, ![1792, 17]⟩
abbrev S1792x1x18 : Shape := ⟨3, ![1792, 1, 18]⟩
abbrev S1792x18 : Shape := ⟨2, ![1792, 18]⟩
abbrev S1792x1x19 : Shape := ⟨3, ![1792, 1, 19]⟩
abbrev S1792x19 : Shape := ⟨2, ![1792, 19]⟩
abbrev S1792x1x20 : Shape := ⟨3, ![1792, 1, 20]⟩
abbrev S1792x20 : Shape := ⟨2, ![1792, 20]⟩
abbrev S1792x1x21 : Shape := ⟨3, ![1792, 1, 21]⟩
abbrev S1792x21 : Shape := ⟨2, ![1792, 21]⟩
abbrev S1792x1x22 : Shape := ⟨3, ![1792, 1, 22]⟩
abbrev S1792x22 : Shape := ⟨2, ![1792, 22]⟩
abbrev S1792x1x23 : Shape := ⟨3, ![1792, 1, 23]⟩
abbrev S1792x23 : Shape := ⟨2, ![1792, 23]⟩
abbrev S1792x1x24 : Shape := ⟨3, ![1792, 1, 24]⟩
abbrev S1792x24 : Shape := ⟨2, ![1792, 24]⟩
abbrev S1792x1x25 : Shape := ⟨3, ![1792, 1, 25]⟩
abbrev S1792x25 : Shape := ⟨2, ![1792, 25]⟩
abbrev S1792x1x26 : Shape := ⟨3, ![1792, 1, 26]⟩
abbrev S1792x26 : Shape := ⟨2, ![1792, 26]⟩
abbrev S1792x1x27 : Shape := ⟨3, ![1792, 1, 27]⟩
abbrev S1792x27 : Shape := ⟨2, ![1792, 27]⟩
abbrev S1792x1x28 : Shape := ⟨3, ![1792, 1, 28]⟩
abbrev S1792x28 : Shape := ⟨2, ![1792, 28]⟩
abbrev S1792x1x29 : Shape := ⟨3, ![1792, 1, 29]⟩
abbrev S1792x29 : Shape := ⟨2, ![1792, 29]⟩
abbrev S1792x1x30 : Shape := ⟨3, ![1792, 1, 30]⟩
abbrev S1792x30 : Shape := ⟨2, ![1792, 30]⟩
abbrev S1792x1x31 : Shape := ⟨3, ![1792, 1, 31]⟩
abbrev S1792x31 : Shape := ⟨2, ![1792, 31]⟩
abbrev S1792x1x32 : Shape := ⟨3, ![1792, 1, 32]⟩
abbrev S1792x32 : Shape := ⟨2, ![1792, 32]⟩
abbrev S1792x1x33 : Shape := ⟨3, ![1792, 1, 33]⟩
abbrev S1792x33 : Shape := ⟨2, ![1792, 33]⟩
abbrev S1792x1x34 : Shape := ⟨3, ![1792, 1, 34]⟩
abbrev S1792x34 : Shape := ⟨2, ![1792, 34]⟩
abbrev S1792x1x35 : Shape := ⟨3, ![1792, 1, 35]⟩
abbrev S1792x35 : Shape := ⟨2, ![1792, 35]⟩
abbrev S1792x1x36 : Shape := ⟨3, ![1792, 1, 36]⟩
abbrev S1792x36 : Shape := ⟨2, ![1792, 36]⟩
abbrev S1792x1x37 : Shape := ⟨3, ![1792, 1, 37]⟩
abbrev S1792x37 : Shape := ⟨2, ![1792, 37]⟩
abbrev S1792x1x38 : Shape := ⟨3, ![1792, 1, 38]⟩
abbrev S1792x38 : Shape := ⟨2, ![1792, 38]⟩
abbrev S1792x1x39 : Shape := ⟨3, ![1792, 1, 39]⟩
abbrev S1792x39 : Shape := ⟨2, ![1792, 39]⟩
abbrev S1792x1x40 : Shape := ⟨3, ![1792, 1, 40]⟩
abbrev S1792x40 : Shape := ⟨2, ![1792, 40]⟩
abbrev S1792x1x41 : Shape := ⟨3, ![1792, 1, 41]⟩
abbrev S1792x41 : Shape := ⟨2, ![1792, 41]⟩
abbrev S1792x1x42 : Shape := ⟨3, ![1792, 1, 42]⟩
abbrev S1792x42 : Shape := ⟨2, ![1792, 42]⟩
abbrev S1792x1x43 : Shape := ⟨3, ![1792, 1, 43]⟩
abbrev S1792x43 : Shape := ⟨2, ![1792, 43]⟩
abbrev S1792x1x44 : Shape := ⟨3, ![1792, 1, 44]⟩
abbrev S1792x44 : Shape := ⟨2, ![1792, 44]⟩
abbrev S1792x1x45 : Shape := ⟨3, ![1792, 1, 45]⟩
abbrev S1792x45 : Shape := ⟨2, ![1792, 45]⟩
abbrev S1792x1x46 : Shape := ⟨3, ![1792, 1, 46]⟩
abbrev S1792x46 : Shape := ⟨2, ![1792, 46]⟩
abbrev S1792x1x47 : Shape := ⟨3, ![1792, 1, 47]⟩
abbrev S1792x47 : Shape := ⟨2, ![1792, 47]⟩
abbrev S1792x1x48 : Shape := ⟨3, ![1792, 1, 48]⟩
abbrev S1792x48 : Shape := ⟨2, ![1792, 48]⟩
abbrev S1792x1x49 : Shape := ⟨3, ![1792, 1, 49]⟩
abbrev S1792x49 : Shape := ⟨2, ![1792, 49]⟩
abbrev S1792x1x50 : Shape := ⟨3, ![1792, 1, 50]⟩
abbrev S1792x50 : Shape := ⟨2, ![1792, 50]⟩
abbrev S1792x1x51 : Shape := ⟨3, ![1792, 1, 51]⟩
abbrev S1792x51 : Shape := ⟨2, ![1792, 51]⟩
abbrev S1792x1x52 : Shape := ⟨3, ![1792, 1, 52]⟩
abbrev S1792x52 : Shape := ⟨2, ![1792, 52]⟩
abbrev S1792x1x53 : Shape := ⟨3, ![1792, 1, 53]⟩
abbrev S1792x53 : Shape := ⟨2, ![1792, 53]⟩
abbrev S1792x1x54 : Shape := ⟨3, ![1792, 1, 54]⟩
abbrev S1792x54 : Shape := ⟨2, ![1792, 54]⟩
abbrev S1792x1x55 : Shape := ⟨3, ![1792, 1, 55]⟩
abbrev S1792x55 : Shape := ⟨2, ![1792, 55]⟩
abbrev S1792x1x56 : Shape := ⟨3, ![1792, 1, 56]⟩
abbrev S1792x56 : Shape := ⟨2, ![1792, 56]⟩
abbrev S1792x1x57 : Shape := ⟨3, ![1792, 1, 57]⟩
abbrev S1792x57 : Shape := ⟨2, ![1792, 57]⟩
abbrev S1792x1x58 : Shape := ⟨3, ![1792, 1, 58]⟩
abbrev S1792x58 : Shape := ⟨2, ![1792, 58]⟩
abbrev S1792x1x59 : Shape := ⟨3, ![1792, 1, 59]⟩
abbrev S1792x59 : Shape := ⟨2, ![1792, 59]⟩
abbrev S1792x1x60 : Shape := ⟨3, ![1792, 1, 60]⟩
abbrev S1792x60 : Shape := ⟨2, ![1792, 60]⟩
abbrev S1792x1x61 : Shape := ⟨3, ![1792, 1, 61]⟩
abbrev S1792x61 : Shape := ⟨2, ![1792, 61]⟩
abbrev S1792x1x62 : Shape := ⟨3, ![1792, 1, 62]⟩
abbrev S1792x62 : Shape := ⟨2, ![1792, 62]⟩
abbrev S1792x1x63 : Shape := ⟨3, ![1792, 1, 63]⟩
abbrev S1792x63 : Shape := ⟨2, ![1792, 63]⟩
abbrev S1792x1x64 : Shape := ⟨3, ![1792, 1, 64]⟩
abbrev S1792x64 : Shape := ⟨2, ![1792, 64]⟩
abbrev S1792x1x65 : Shape := ⟨3, ![1792, 1, 65]⟩
abbrev S1792x65 : Shape := ⟨2, ![1792, 65]⟩
abbrev S1792x1x66 : Shape := ⟨3, ![1792, 1, 66]⟩
abbrev S1792x66 : Shape := ⟨2, ![1792, 66]⟩
abbrev S1792x1x67 : Shape := ⟨3, ![1792, 1, 67]⟩
abbrev S1792x67 : Shape := ⟨2, ![1792, 67]⟩
abbrev S1792x1x68 : Shape := ⟨3, ![1792, 1, 68]⟩
abbrev S1792x68 : Shape := ⟨2, ![1792, 68]⟩
abbrev S1792x1x69 : Shape := ⟨3, ![1792, 1, 69]⟩
abbrev S1792x69 : Shape := ⟨2, ![1792, 69]⟩
abbrev S1792x1x70 : Shape := ⟨3, ![1792, 1, 70]⟩
abbrev S1792x70 : Shape := ⟨2, ![1792, 70]⟩
abbrev S1792x1x71 : Shape := ⟨3, ![1792, 1, 71]⟩
abbrev S1792x2716 : Shape := ⟨2, ![1792, 2716]⟩
abbrev S1792x71x1 : Shape := ⟨3, ![1792, 71, 1]⟩

abbrev nBuf : Space → Nat
  | .hbm => 9
  | .vmem => 9
  | .smem => 0
  | _ => 0

abbrev bufTy : (tb : Table) → Fin (tcTables nBuf tb) → BufTy
  | .hbm, ⟨0, _⟩ => ⟨S1792x71x160, .i8⟩
  | .hbm, ⟨1, _⟩ => ⟨S1792x71, .f32⟩
  | .hbm, ⟨2, _⟩ => ⟨S1792x160, .bf16⟩
  | .hbm, ⟨3, _⟩ => ⟨S1792x160, .i8⟩
  | .hbm, ⟨4, _⟩ => ⟨S2716x1792, .fp8e4m3⟩
  | .hbm, ⟨5, _⟩ => ⟨S1792, .f32⟩
  | .hbm, ⟨6, _⟩ => ⟨S71x1792, .f32⟩
  | .hbm, ⟨7, _⟩ => ⟨S160x1792, .fp8e4m3⟩
  | .hbm, ⟨8, _⟩ => ⟨S1792, .f32⟩
  | .local _ .vmem, ⟨0, _⟩ => ⟨S1792x71x160, .i8⟩
  | .local _ .vmem, ⟨1, _⟩ => ⟨S1792x71, .f32⟩
  | .local _ .vmem, ⟨2, _⟩ => ⟨S1792x160, .bf16⟩
  | .local _ .vmem, ⟨3, _⟩ => ⟨S1792x160, .i8⟩
  | .local _ .vmem, ⟨4, _⟩ => ⟨S2716x1792, .fp8e4m3⟩
  | .local _ .vmem, ⟨5, _⟩ => ⟨S1792, .f32⟩
  | .local _ .vmem, ⟨6, _⟩ => ⟨S71x1792, .f32⟩
  | .local _ .vmem, ⟨7, _⟩ => ⟨S160x1792, .fp8e4m3⟩
  | .local _ .vmem, ⟨8, _⟩ => ⟨S1792, .f32⟩
  | _, _ => ⟨S1792x71x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1792x71x160 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x71 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x160 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2716x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S71x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x1792 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Exec.lean ====
/-
  Running a kernel body over its fourteen buffers. `Regs` names the fourteen memrefs, `St` what they hold, and
  `Runs c A p Q x` says that the program `p`, started with the memrefs of `A` owned at the contents `x`, ends in a
  value and contents that satisfy `Q`. The lemmas say how a load, a store, a branch and a sequence of programs run.
-/
module

public import Idealize.ShloMosaic.Lib.Tactic
public import Idealize.ShloMosaic.Lib.Pipeline.Frame

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The fourteen memrefs of the body. -/
structure Regs (sig : RefSig) where
  a1 : Memref sig .tc .vmem ⟨3, ![71, 160, 128]⟩ .i8
  a2 : Memref sig .tc .vmem ⟨2, ![71, 128]⟩ .f32
  a3 : Memref sig .tc .vmem ⟨2, ![160, 128]⟩ .bf16
  a4 : Memref sig .tc .vmem ⟨2, ![160, 128]⟩ .i8
  a5 : Memref sig .tc .vmem ⟨2, ![2716, 128]⟩ .fp8e4m3
  a6 : Memref sig .tc .vmem ⟨1, ![1792]⟩ .f32
  a7 : Memref sig .tc .vmem ⟨2, ![71, 128]⟩ .f32
  a8 : Memref sig .tc .vmem ⟨2, ![160, 128]⟩ .fp8e4m3
  a9 : Memref sig .tc .vmem ⟨1, ![1792]⟩ .f32
  a10 : Memref sig .tc .vmem ⟨2, ![2312, 128]⟩ .i32
  a11 : Memref sig .tc .vmem ⟨2, ![2312, 128]⟩ .i32
  a12 : Memref sig .tc .vmem ⟨2, ![3584, 128]⟩ .f32
  a13 : Memref sig .tc .vmem ⟨2, ![2716, 128]⟩ .f32
  a14 : Memref sig .tc .vmem ⟨2, ![72, 128]⟩ .f32

/-- What the fourteen memrefs hold. -/
structure St (Val : EltTy → Type) where
  c1 : Shape.Idx ⟨3, ![71, 160, 128]⟩ → Val .i8
  c2 : Shape.Idx ⟨2, ![71, 128]⟩ → Val .f32
  c3 : Shape.Idx ⟨2, ![160, 128]⟩ → Val .bf16
  c4 : Shape.Idx ⟨2, ![160, 128]⟩ → Val .i8
  c5 : Shape.Idx ⟨2, ![2716, 128]⟩ → Val .fp8e4m3
  c6 : Shape.Idx ⟨1, ![1792]⟩ → Val .f32
  c7 : Shape.Idx ⟨2, ![71, 128]⟩ → Val .f32
  c8 : Shape.Idx ⟨2, ![160, 128]⟩ → Val .fp8e4m3
  c9 : Shape.Idx ⟨1, ![1792]⟩ → Val .f32
  c10 : Shape.Idx ⟨2, ![2312, 128]⟩ → Val .i32
  c11 : Shape.Idx ⟨2, ![2312, 128]⟩ → Val .i32
  c12 : Shape.Idx ⟨2, ![3584, 128]⟩ → Val .f32
  c13 : Shape.Idx ⟨2, ![2716, 128]⟩ → Val .f32
  c14 : Shape.Idx ⟨2, ![72, 128]⟩ → Val .f32

/-- The contents `X` with the rectangle `r` overwritten by `w`. -/
def put {s : Shape} {α : Type} (r : Rect s) (w : r.shape.Idx → α) (X : s.Idx → α) : s.Idx → α := by
  classical exact fun i => if h : ∃ j, r.emb j = i then w h.choose else X i

theorem put_emb {s : Shape} {α : Type} (r : Rect s) (w : r.shape.Idx → α) (X : s.Idx → α) (j : r.shape.Idx) :
    put r w X (r.emb j) = w j := by
  unfold put
  rw [dif_pos ⟨j, rfl⟩]
  congr 1
  exact r.emb.injective (Exists.choose_spec (⟨j, rfl⟩ : ∃ j', r.emb j' = r.emb j))

theorem put_of_ne {s : Shape} {α : Type} (r : Rect s) (w : r.shape.Idx → α) (X : s.Idx → α) (i : s.Idx)
    (h : ∀ j, r.emb j ≠ i) : put r w X i = X i := by
  unfold put
  rw [dif_neg (fun ⟨j, hj⟩ => h j hj)]

variable {nD : Nat} {τ : Topo} {sig : RefSig} {Val : EltTy → Type} {Λ : Labels}

local notation "𝕄" => MT nD τ sig Unit Val ℕ (UR sig nD τ) ℕ

section Owns

variable {defs : Defs nD τ sig Val Λ} (𝒱 : Variants) (c : Dev nD) (E : Set ℕ)
variable {s : Shape} {e : EltTy} {α : Type}

/-- A load of an owned memref. -/
theorem owns_load {m : Memref sig .tc .vmem s e} {r : LoadRect s} {hl : m.view.LoadsAt r} {X : s.Idx → Val e}
    {k : (r.shape.Idx → Val e) → Prog (TpuEff nD τ sig Val Λ .tc) α} {Q : α → sProp 𝕄} :
    owns (Ix := Unit) (Name := ℕ) (U := UR sig nD τ) (Lvl := ℕ) (c : Thread nD τ) m fullShare X
      ⊢ iprop((owns (c : Thread nD τ) m fullShare X -∗ wp frame (wpE defs 𝒱 (c : Thread nD τ) none) E (k fun j => X (r.idx j)) Q)
        -∗ wp frame (wpE defs 𝒱 (c : Thread nD τ) none) E (.op (.load m r hl) k) Q) := by
  unfold owns
  iintro ⟨%f, %hf, H⟩ Hk
  have hS : m.view.setOn r.set ⊆ m.view.set := m.view.setOn_subset_set _
  have hv : (m.view.readAt Val r f) = fun j => X (r.idx j) := by
    funext j; rw [← hf]; rfl
  iapply (wp_load (defs := defs) 𝒱 (c : Thread nD τ) none E (hl := hl) (k := k) (q := fullShare) (f := f) hS) $$ H
  iintro H
  rw [hv]
  iapply Hk
  iexists f
  isplitr; · ipureintro; exact hf
  iexact H

/-- An unmasked store into an owned memref. -/
theorem owns_store {m : Memref sig .tc .vmem s e} {r : Rect s} {w : r.shape.Idx → Val e} {hx : (m.access r).Stores Finset.univ}
    {hm : Finset.univ = Finset.univ ∨ ∀ a, r.stride a = 1} {X : s.Idx → Val e}
    {k : PUnit → Prog (TpuEff nD τ sig Val Λ .tc) α} {Q : α → sProp 𝕄} :
    owns (Ix := Unit) (Name := ℕ) (U := UR sig nD τ) (Lvl := ℕ) (c : Thread nD τ) m fullShare X
      ⊢ iprop((owns (c : Thread nD τ) m fullShare (put r w X) -∗ wp frame (wpE defs 𝒱 (c : Thread nD τ) none) E (k ⟨⟩) Q)
        -∗ wp frame (wpE defs 𝒱 (c : Thread nD τ) none) E (.op (.store m r w Finset.univ hx hm) k) Q) := by
  unfold owns
  iintro ⟨%f, %hf, H⟩ Hk
  have hS : (m.access r).setOn Finset.univ ⊆ m.view.set := Memref.setOn_access_subset m r _
  have hv : m.view.read Val ((m.access r).write Val f w Finset.univ) = put r w X := by
    funext i
    by_cases h : ∃ j, r.emb j = i
    · obtain ⟨j, rfl⟩ := h
      rw [put_emb]
      exact congrFun (View.read_write_univ (v := m.access r) (Val := Val) f w) j
    · rw [put_of_ne _ _ _ _ (fun j hj => h ⟨j, hj⟩), ← hf]
      refine View.read_slice_write_of_not_mem (v := m.view) (Val := Val) r f w _ (fun hmem => ?_)
      obtain ⟨j, -, hj⟩ := Finset.mem_map.mp hmem
      exact h ⟨j, hj⟩
  iapply (wp_store (defs := defs) 𝒱 (c : Thread nD τ) none E (w := w) (hx := hx) (hm := hm) (k := k) (f := f) hS) $$ H
  iintro H
  iapply Hk
  iexists _
  isplitr; · ipureintro; exact hv
  iexact H

end Owns

variable (defs : Defs nD τ sig Val Λ) (𝒱 : Variants) (c : Dev nD) (A : Regs sig)

/-- The fourteen memrefs owned at the contents `x`. -/
def Own (x : St Val) : sProp 𝕄 :=
  iprop(owns (c : Thread nD τ) A.a1 fullShare x.c1 ∗ owns (c : Thread nD τ) A.a2 fullShare x.c2 ∗ owns (c : Thread nD τ) A.a3 fullShare x.c3 ∗ owns (c : Thread nD τ) A.a4 fullShare x.c4 ∗ owns (c : Thread nD τ) A.a5 fullShare x.c5 ∗ owns (c : Thread nD τ) A.a6 fullShare x.c6 ∗ owns (c : Thread nD τ) A.a7 fullShare x.c7 ∗ owns (c : Thread nD τ) A.a8 fullShare x.c8 ∗ owns (c : Thread nD τ) A.a9 fullShare x.c9 ∗ owns (c : Thread nD τ) A.a10 fullShare x.c10 ∗ owns (c : Thread nD τ) A.a11 fullShare x.c11 ∗ owns (c : Thread nD τ) A.a12 fullShare x.c12 ∗ owns (c : Thread nD τ) A.a13 fullShare x.c13 ∗ owns (c : Thread nD τ) A.a14 fullShare x.c14)

/-- From the contents `x`, the program `p` runs to a value and contents satisfying `Q`. -/
def Runs {α : Type} (p : Prog (TpuEff nD τ sig Val Λ .tc) α) (Q : α → St Val → Prop) (x : St Val) : Prop :=
  ∀ Ψ : α → sProp 𝕄, (∀ a y, Q a y → (Own c A y ⊢ Ψ a)) →
    (Own c A x ⊢ wp frame (wpE defs 𝒱 (c : Thread nD τ) none) Set.univ p Ψ)

namespace Runs

variable {defs 𝒱 c A} {α β : Type}

theorem ret {Q : α → St Val → Prop} {x : St Val} {a : α} (h : Q a x) : Runs defs 𝒱 c A (pure a) Q x :=
  fun Ψ hΨ => (hΨ a x h).trans (le_wp_ret _ _ _ a Ψ)

theorem bind {p : Prog (TpuEff nD τ sig Val Λ .tc) α} {k : α → Prog (TpuEff nD τ sig Val Λ .tc) β}
    {Q : β → St Val → Prop} {x : St Val} (h : Runs defs 𝒱 c A p (fun a y => Runs defs 𝒱 c A (k a) Q y) x) :
    Runs defs 𝒱 c A (p >>= k) Q x := by
  intro Ψ hΨ
  rw [wp_bind]
  exact h _ fun a y hy => hy Ψ hΨ

theorem mono {p : Prog (TpuEff nD τ sig Val Λ .tc) α} {Q Q' : α → St Val → Prop} {x : St Val}
    (h : Runs defs 𝒱 c A p Q x) (hQ : ∀ a y, Q a y → Q' a y) : Runs defs 𝒱 c A p Q' x :=
  fun Ψ hΨ => h Ψ fun a y hy => hΨ a y (hQ a y hy)

theorem load1 {r : LoadRect ⟨3, ![71, 160, 128]⟩} {hl : A.a1.view.LoadsAt r} {Q : _ → St Val → Prop} {x : St Val}
    (h : Q (fun j => x.c1 (r.idx j)) x) : Runs defs 𝒱 c A (Prog.lift (.load A.a1 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c1)) $$ H1
  iintro H1
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load2 {r : LoadRect ⟨2, ![71, 128]⟩} {hl : A.a2.view.LoadsAt r} {Q : _ → St Val → Prop} {x : St Val}
    (h : Q (fun j => x.c2 (r.idx j)) x) : Runs defs 𝒱 c A (Prog.lift (.load A.a2 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c2)) $$ H2
  iintro H2
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load3 {r : LoadRect ⟨2, ![160, 128]⟩} {hl : A.a3.view.LoadsAt r} {Q : _ → St Val → Prop} {x : St Val}
    (h : Q (fun j => x.c3 (r.idx j)) x) : Runs defs 𝒱 c A (Prog.lift (.load A.a3 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c3)) $$ H3
  iintro H3
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load4 {r : LoadRect ⟨2, ![160, 128]⟩} {hl : A.a4.view.LoadsAt r} {Q : _ → St Val → Prop} {x : St Val}
    (h : Q (fun j => x.c4 (r.idx j)) x) : Runs defs 𝒱 c A (Prog.lift (.load A.a4 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c4)) $$ H4
  iintro H4
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load5 {r : LoadRect ⟨2, ![2716, 128]⟩} {hl : A.a5.view.LoadsAt r} {Q : _ → St Val → Prop} {x : St Val}
    (h : Q (fun j => x.c5 (r.idx j)) x) : Runs defs 𝒱 c A (Prog.lift (.load A.a5 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c5)) $$ H5
  iintro H5
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load6 {r : LoadRect ⟨1, ![1792]⟩} {hl : A.a6.view.LoadsAt r} {Q : _ → St Val → Prop} {x : St Val}
    (h : Q (fun j => x.c6 (r.idx j)) x) : Runs defs 𝒱 c A (Prog.lift (.load A.a6 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c6)) $$ H6
  iintro H6
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load7 {r : LoadRect ⟨2, ![71, 128]⟩} {hl : A.a7.view.LoadsAt r} {Q : _ → St Val → Prop} {x : St Val}
    (h : Q (fun j => x.c7 (r.idx j)) x) : Runs defs 𝒱 c A (Prog.lift (.load A.a7 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c7)) $$ H7
  iintro H7
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load8 {r : LoadRect ⟨2, ![160, 128]⟩} {hl : A.a8.view.LoadsAt r} {Q : _ → St Val → Prop} {x : St Val}
    (h : Q (fun j => x.c8 (r.idx j)) x) : Runs defs 𝒱 c A (Prog.lift (.load A.a8 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c8)) $$ H8
  iintro H8
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load9 {r : LoadRect ⟨1, ![1792]⟩} {hl : A.a9.view.LoadsAt r} {Q : _ → St Val → Prop} {x : St Val}
    (h : Q (fun j => x.c9 (r.idx j)) x) : Runs defs 𝒱 c A (Prog.lift (.load A.a9 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c9)) $$ H9
  iintro H9
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load10 {r : LoadRect ⟨2, ![2312, 128]⟩} {hl : A.a10.view.LoadsAt r} {Q : _ → St Val → Prop} {x : St Val}
    (h : Q (fun j => x.c10 (r.idx j)) x) : Runs defs 𝒱 c A (Prog.lift (.load A.a10 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c10)) $$ H10
  iintro H10
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load11 {r : LoadRect ⟨2, ![2312, 128]⟩} {hl : A.a11.view.LoadsAt r} {Q : _ → St Val → Prop} {x : St Val}
    (h : Q (fun j => x.c11 (r.idx j)) x) : Runs defs 𝒱 c A (Prog.lift (.load A.a11 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c11)) $$ H11
  iintro H11
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load12 {r : LoadRect ⟨2, ![3584, 128]⟩} {hl : A.a12.view.LoadsAt r} {Q : _ → St Val → Prop} {x : St Val}
    (h : Q (fun j => x.c12 (r.idx j)) x) : Runs defs 𝒱 c A (Prog.lift (.load A.a12 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c12)) $$ H12
  iintro H12
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load13 {r : LoadRect ⟨2, ![2716, 128]⟩} {hl : A.a13.view.LoadsAt r} {Q : _ → St Val → Prop} {x : St Val}
    (h : Q (fun j => x.c13 (r.idx j)) x) : Runs defs 𝒱 c A (Prog.lift (.load A.a13 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c13)) $$ H13
  iintro H13
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem load14 {r : LoadRect ⟨2, ![72, 128]⟩} {hl : A.a14.view.LoadsAt r} {Q : _ → St Val → Prop} {x : St Val}
    (h : Q (fun j => x.c14 (r.idx j)) x) : Runs defs 𝒱 c A (Prog.lift (.load A.a14 r hl)) Q x := by
  intro Ψ hΨ
  have hq := hΨ _ _ h
  unfold Own at hq ⊢
  iintro ⟨H1, H2, H3, H4, H5, H6, H7, H8, H9, H10, H11, H12, H13, H14⟩
  iapply (owns_load 𝒱 c Set.univ (X := x.c14)) $$ H14
  iintro H14
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store5 {r : Rect ⟨2, ![2716, 128]⟩} {w : r.shape.Idx → Val .fp8e4m3} {hx : (A.a5.access r).Stores Finset.univ}
    {hm : Finset.univ = Finset.univ ∨ ∀ a, r.stride a = 1} {Q : PUnit → St Val → Prop} {x : St Val}
    (h : Q ⟨⟩ { x with c5 := put r w x.c5 }) : Runs defs 𝒱 c A (Prog.lift (.store A.a5 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c5)) $$ H5
  iintro H5
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store6 {r : Rect ⟨1, ![1792]⟩} {w : r.shape.Idx → Val .f32} {hx : (A.a6.access r).Stores Finset.univ}
    {hm : Finset.univ = Finset.univ ∨ ∀ a, r.stride a = 1} {Q : PUnit → St Val → Prop} {x : St Val}
    (h : Q ⟨⟩ { x with c6 := put r w x.c6 }) : Runs defs 𝒱 c A (Prog.lift (.store A.a6 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c6)) $$ H6
  iintro H6
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store7 {r : Rect ⟨2, ![71, 128]⟩} {w : r.shape.Idx → Val .f32} {hx : (A.a7.access r).Stores Finset.univ}
    {hm : Finset.univ = Finset.univ ∨ ∀ a, r.stride a = 1} {Q : PUnit → St Val → Prop} {x : St Val}
    (h : Q ⟨⟩ { x with c7 := put r w x.c7 }) : Runs defs 𝒱 c A (Prog.lift (.store A.a7 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c7)) $$ H7
  iintro H7
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store8 {r : Rect ⟨2, ![160, 128]⟩} {w : r.shape.Idx → Val .fp8e4m3} {hx : (A.a8.access r).Stores Finset.univ}
    {hm : Finset.univ = Finset.univ ∨ ∀ a, r.stride a = 1} {Q : PUnit → St Val → Prop} {x : St Val}
    (h : Q ⟨⟩ { x with c8 := put r w x.c8 }) : Runs defs 𝒱 c A (Prog.lift (.store A.a8 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c8)) $$ H8
  iintro H8
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store9 {r : Rect ⟨1, ![1792]⟩} {w : r.shape.Idx → Val .f32} {hx : (A.a9.access r).Stores Finset.univ}
    {hm : Finset.univ = Finset.univ ∨ ∀ a, r.stride a = 1} {Q : PUnit → St Val → Prop} {x : St Val}
    (h : Q ⟨⟩ { x with c9 := put r w x.c9 }) : Runs defs 𝒱 c A (Prog.lift (.store A.a9 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c9)) $$ H9
  iintro H9
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store10 {r : Rect ⟨2, ![2312, 128]⟩} {w : r.shape.Idx → Val .i32} {hx : (A.a10.access r).Stores Finset.univ}
    {hm : Finset.univ = Finset.univ ∨ ∀ a, r.stride a = 1} {Q : PUnit → St Val → Prop} {x : St Val}
    (h : Q ⟨⟩ { x with c10 := put r w x.c10 }) : Runs defs 𝒱 c A (Prog.lift (.store A.a10 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c10)) $$ H10
  iintro H10
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store11 {r : Rect ⟨2, ![2312, 128]⟩} {w : r.shape.Idx → Val .i32} {hx : (A.a11.access r).Stores Finset.univ}
    {hm : Finset.univ = Finset.univ ∨ ∀ a, r.stride a = 1} {Q : PUnit → St Val → Prop} {x : St Val}
    (h : Q ⟨⟩ { x with c11 := put r w x.c11 }) : Runs defs 𝒱 c A (Prog.lift (.store A.a11 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c11)) $$ H11
  iintro H11
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store12 {r : Rect ⟨2, ![3584, 128]⟩} {w : r.shape.Idx → Val .f32} {hx : (A.a12.access r).Stores Finset.univ}
    {hm : Finset.univ = Finset.univ ∨ ∀ a, r.stride a = 1} {Q : PUnit → St Val → Prop} {x : St Val}
    (h : Q ⟨⟩ { x with c12 := put r w x.c12 }) : Runs defs 𝒱 c A (Prog.lift (.store A.a12 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c12)) $$ H12
  iintro H12
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store13 {r : Rect ⟨2, ![2716, 128]⟩} {w : r.shape.Idx → Val .f32} {hx : (A.a13.access r).Stores Finset.univ}
    {hm : Finset.univ = Finset.univ ∨ ∀ a, r.stride a = 1} {Q : PUnit → St Val → Prop} {x : St Val}
    (h : Q ⟨⟩ { x with c13 := put r w x.c13 }) : Runs defs 𝒱 c A (Prog.lift (.store A.a13 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c13)) $$ H13
  iintro H13
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem store14 {r : Rect ⟨2, ![72, 128]⟩} {w : r.shape.Idx → Val .f32} {hx : (A.a14.access r).Stores Finset.univ}
    {hm : Finset.univ = Finset.univ ∨ ∀ a, r.stride a = 1} {Q : PUnit → St Val → Prop} {x : St Val}
    (h : Q ⟨⟩ { x with c14 := put r w x.c14 }) : Runs defs 𝒱 c A (Prog.lift (.store A.a14 r w Finset.univ hx hm)) Q x := by
  intro Ψ hΨ
  have hq := hΨ _ _ h
  unfold Own at hq ⊢
  iintro ⟨H1, H2, H3, H4, H5, H6, H7, H8, H9, H10, H11, H12, H13, H14⟩
  iapply (owns_store 𝒱 c Set.univ (X := x.c14)) $$ H14
  iintro H14
  iapply (le_wp_ret _ _ _ _ Ψ)
  iapply hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Runs

end Cert.Proof

end
-- ==== Proof.Stages.lean ====
/-
  The three stages of the kernel body as invariants of its buffers: the packed words, the slots of the gram
  matrices, and the scaled products. Each stage has one lemma saying what one store adds.
-/
module

public import proofs.«01_k».proof.Proof.Exec
public import Idealize.ShloMosaic.Lib.Pipeline.Value

@[expose] public section

set_option maxRecDepth 16384

noncomputable section

namespace Cert.Proof

open Idealize.ShloMosaic Idealize.ShloMosaic.TcCoe Idealize.SL.Sem Idealize.SL

variable {F : FTy → Type} [FloatOps F]

/-! ### The slots -/

/-- The row block of the gram matrix that slot `j` keeps. -/
def slotV (j : ℕ) : ℕ := [8, 6, 7, 5, 1, 4, 3, 2, 0].getD j 0
/-- The first lane of slot `j`. -/
def slotL (j : ℕ) : ℕ := [0, 72, 0, 64, 112, 0, 40, 72, 96].getD j 0
/-- The eight-row band of slot `j`. -/
def slotS (j : ℕ) : ℕ := [0, 0, 1, 1, 1, 2, 2, 2, 2].getD j 0

theorem slot_apart : ∀ j < 9, ∀ j' < 9, j ≠ j' → slotS j ≠ slotS j' ∨ slotL j + 8 * slotV j + 8 ≤ slotL j' ∨
    slotL j' + 8 * slotV j' + 8 ≤ slotL j := by decide

theorem slotS_lt : ∀ j < 9, slotS j < 3 := by decide

/-! ### Packing -/

/-- The words of the groups before `k` are in place: group `g` is on the rows that are `g` modulo 18. -/
def Packed (P : ℕ → Shape.Idx ⟨2, ![128, 128]⟩ → BitVec 32) (k : ℕ) (X : Shape.Idx ⟨2, ![2312, 128]⟩ → BitVec 32) : Prop :=
  ∀ g < k, ∀ (q : Shape.Idx ⟨2, ![2312, 128]⟩) (p : Shape.Idx ⟨2, ![128, 128]⟩),
    (q 0).val = 18 * (p 0).val + g → (q 1).val = (p 1).val → X q = P g p

theorem Packed.zero (P : ℕ → Shape.Idx ⟨2, ![128, 128]⟩ → BitVec 32) (X : Shape.Idx ⟨2, ![2312, 128]⟩ → BitVec 32) :
    Packed P 0 X := fun g hg => absurd hg (Nat.not_lt_zero g)

theorem Packed.put {P : ℕ → Shape.Idx ⟨2, ![128, 128]⟩ → BitVec 32} {k o : ℕ} {X : Shape.Idx ⟨2, ![2312, 128]⟩ → BitVec 32}
    (hX : Packed P k X)
    {inb : ∀ a, ![128, 128] a = 0 ∨ ![o, 0] a + ![18, 1] a * (![128, 128] a - 1) < Shape.size ⟨2, ![2312, 128]⟩ a}
    {hp : ∀ a, 0 < ![18, 1] a} {w : Shape.Idx ⟨2, ![128, 128]⟩ → BitVec 32} (ho : o = k) (hk : k < 18) (hw : w = P k) :
    Packed P (k + 1) (put (s := ⟨2, ![2312, 128]⟩) ⟨⟨![o, 0], ![128, 128], ![18, 1], inb⟩, hp⟩ w X) := by
  subst ho
  intro g hg q p h0 h1
  by_cases he : g = o
  · subst he
    have hq : q = Rect.emb (s := ⟨2, ![2312, 128]⟩) ⟨⟨![g, 0], ![128, 128], ![18, 1], inb⟩, hp⟩ p := by
      funext a
      apply Fin.ext
      fin_cases a
      · show (q 0).val = g + 18 * (p 0).val
        omega
      · show (q 1).val = 0 + 1 * (p 1).val
        omega
    rw [hq, put_emb, hw]
  · rw [put_of_ne _ _ _ _ ?_]
    · exact hX g (by omega) q p h0 h1
    · rintro t rfl
      have := h0
      change o + 18 * (t 0).val = 18 * (p 0).val + g at this
      omega

/-! ### The gram matrices -/

/-- The slots before the `k`-th are in place: slot `j` of matrix `b` is number `9 * b + j`. -/
def Slotted (G : ℕ → Shape.Idx ⟨2, ![96, 96]⟩ → F .f32) (k : ℕ) (X : Shape.Idx ⟨2, ![3584, 128]⟩ → F .f32) : Prop :=
  ∀ b j, 9 * b + j < k → j < 9 → ∀ (q : Shape.Idx ⟨2, ![3584, 128]⟩) (p : Shape.Idx ⟨2, ![96, 96]⟩),
    8 * slotV j ≤ (p 0).val → (p 0).val < 8 * slotV j + 8 → (p 1).val < 8 * slotV j + 8 →
    (q 0).val + 8 * slotV j = 28 * b + 8 * slotS j + (p 0).val → (q 1).val = slotL j + (p 1).val → X q = G b p

theorem Slotted.zero (G : ℕ → Shape.Idx ⟨2, ![96, 96]⟩ → F .f32) (X : Shape.Idx ⟨2, ![3584, 128]⟩ → F .f32) :
    Slotted G 0 X := fun _ _ h => absurd h (Nat.not_lt_zero _)

theorem Slotted.put_slot {G : ℕ → Shape.Idx ⟨2, ![96, 96]⟩ → F .f32} {b j o0 o1 n1 : ℕ}
    {X : Shape.Idx ⟨2, ![3584, 128]⟩ → F .f32} (hj : j < 9)
    (hX : Slotted G (9 * b + j) X) {inb : ∀ a, ![o0, o1] a + ![8, n1] a ≤ Shape.size ⟨2, ![3584, 128]⟩ a}
    {w : Shape.Idx ⟨2, ![8, n1]⟩ → F .f32}
    (h0 : o0 = 28 * b + 8 * slotS j) (h1 : o1 = slotL j) (hn : n1 = 8 * slotV j + 8)
    (hw : ∃ hs hc, w = shapeCast ⟨2, ![8, n1]⟩
      (extractStridedSlice (s := ⟨2, ![96, 96]⟩) ⟨2, ![8, n1]⟩ ![8 * slotV j, 0] (G b) hs) hc) :
    Slotted G (9 * b + j + 1) (put (s := ⟨2, ![3584, 128]⟩) (Rect.unit ![o0, o1] ![8, n1] inb) w X) := by
  obtain ⟨hs, hc, hw⟩ := hw
  rw [shapeCast_self] at hw
  subst h0 h1 hn hw
  intro b' j' hk hj' q p hp0 hp0' hp1 hq0 hq1
  by_cases he : b' = b ∧ j' = j
  · obtain ⟨rfl, rfl⟩ := he
    let t : Shape.Idx ⟨2, ![8, 8 * slotV j' + 8]⟩ := Fin.cons ⟨(p 0).val - 8 * slotV j', by show _ < 8; omega⟩
      (Fin.cons ⟨(p 1).val, hp1⟩ finZeroElim)
    have hq : q = Rect.emb (s := ⟨2, ![3584, 128]⟩)
        (Rect.unit ![28 * b' + 8 * slotS j', slotL j'] ![8, 8 * slotV j' + 8] inb) t := by
      funext a
      apply Fin.ext
      fin_cases a
      · show (q 0).val = 28 * b' + 8 * slotS j' + 1 * ((p 0).val - 8 * slotV j')
        omega
      · show (q 1).val = slotL j' + 1 * (p 1).val
        omega
    rw [hq, put_emb]
    refine extractStridedSlice_apply _ _ _ _ _ fun a => ?_
    fin_cases a
    · show (p 0).val = 8 * slotV j' + ((p 0).val - 8 * slotV j')
      omega
    · show (p 1).val = 0 + (p 1).val
      omega
  · rw [put_of_ne _ _ _ _ ?_]
    · refine hX b' j' ?_ hj' q p hp0 hp0' hp1 hq0 hq1
      omega
    · rintro t rfl
      have ht0 : (t 0).val < 8 := (t 0).isLt
      have ht1 : (t 1).val < 8 * slotV j + 8 := (t 1).isLt
      change 28 * b + 8 * slotS j + 1 * (t 0).val + 8 * slotV j' = 28 * b' + 8 * slotS j' + (p 0).val at hq0
      change slotL j + 1 * (t 1).val = slotL j' + (p 1).val at hq1
      have hs1 := slotS_lt j hj
      have hs2 := slotS_lt j' hj'
      have hb : b' = b := by omega
      subst hb
      have hne : j' ≠ j := fun h => he ⟨rfl, h⟩
      rcases slot_apart j' hj' j hj hne with h | h | h <;> omega

theorem Slotted.put {G : ℕ → Shape.Idx ⟨2, ![96, 96]⟩ → F .f32} {k o0 o1 n1 : ℕ} {X : Shape.Idx ⟨2, ![3584, 128]⟩ → F .f32}
    (hX : Slotted G k X) {inb : ∀ a, ![o0, o1] a + ![8, n1] a ≤ Shape.size ⟨2, ![3584, 128]⟩ a}
    {w : Shape.Idx ⟨2, ![8, n1]⟩ → F .f32}
    (h0 : o0 = 28 * (k / 9) + 8 * slotS (k % 9)) (h1 : o1 = slotL (k % 9)) (hn : n1 = 8 * slotV (k % 9) + 8)
    (hw : ∃ hs hc, w = shapeCast ⟨2, ![8, n1]⟩
      (extractStridedSlice (s := ⟨2, ![96, 96]⟩) ⟨2, ![8, n1]⟩ ![8 * slotV (k % 9), 0] (G (k / 9)) hs) hc) :
    Slotted G (k + 1) (put (s := ⟨2, ![3584, 128]⟩) (Rect.unit ![o0, o1] ![8, n1] inb) w X) := by
  have hk : 9 * (k / 9) + k % 9 = k := by omega
  have h := Slotted.put_slot (b := k / 9) (j := k % 9) (Nat.mod_lt _ (by omega)) (by rwa [hk]) h0 h1 hn hw (inb := inb)
  rwa [hk] at h

/-! ### The scaled products -/

/-- The slot the `k`-th product reads. -/
def prodJ (k : ℕ) : ℕ :=
  if k < 16 then k % 2 else if k < 40 then 2 + (k - 16) % 3 else if k < 43 then 5 + (k - 40) else 5 + (k - 43) % 4
/-- The row within its slot the `k`-th product reads. -/
def prodR (k : ℕ) : ℕ :=
  if k < 16 then k / 2 else if k < 40 then (k - 16) / 3 else if k < 43 then 0 else 1 + (k - 43) / 4
/-- The feature whose products with the earlier features the `k`-th store writes. -/
def prodI (k : ℕ) : ℕ := 8 * slotV (prodJ k) + prodR k

/-- Element `l` of the product of features `i` and `j`, read off the scales `S` and the slots `T` (slot `s`, row `r`). -/
def IsProd (S : Shape.Idx ⟨2, ![72, 128]⟩ → F .f32) (T : Shape.Idx ⟨2, ![3584, 128]⟩ → F .f32) (k j l : ℕ) (v : F .f32) : Prop :=
  ∀ (a b : Shape.Idx ⟨2, ![72, 128]⟩) (d : Shape.Idx ⟨2, ![3584, 128]⟩),
    (a 0).val = prodI k → (a 1).val = l → (b 0).val = j → (b 1).val = l →
    (d 0).val = 28 * l + 8 * slotS (prodJ k) + prodR k → (d 1).val = slotL (prodJ k) + j →
    v = FloatOps.mulf (FloatOps.mulf (S a) (S b)) (T d)

/-- The first products are in place after the rows of `x`. -/
def Multiplied (S : Shape.Idx ⟨2, ![72, 128]⟩ → F .f32) (T : Shape.Idx ⟨2, ![3584, 128]⟩ → F .f32)
    (R : Shape.Idx ⟨2, ![160, 128]⟩ → F .f32) (k : ℕ) (X : Shape.Idx ⟨2, ![2716, 128]⟩ → F .f32) : Prop :=
  (∀ (q : Shape.Idx ⟨2, ![2716, 128]⟩) (p : Shape.Idx ⟨2, ![160, 128]⟩), (q 0).val = (p 0).val → (q 1).val = (p 1).val → X q = R p) ∧
  ∀ k' < k, ∀ j < prodI k', ∀ q : Shape.Idx ⟨2, ![2716, 128]⟩,
    (q 0).val = 160 + prodI k' * (prodI k' - 1) / 2 + j → IsProd S T k' j (q 1).val (X q)

/-- The first products with feature 0 are in place. -/
def Crossed (S : Shape.Idx ⟨2, ![72, 128]⟩ → F .f32) (T : Shape.Idx ⟨2, ![3584, 128]⟩ → F .f32)
    (k : ℕ) (X : Shape.Idx ⟨2, ![71, 128]⟩ → F .f32) : Prop :=
  ∀ k' < k, ∀ q : Shape.Idx ⟨2, ![71, 128]⟩, (q 0).val + 1 = prodI k' → IsProd S T k' 0 (q 1).val (X q)

theorem Crossed.zero (S : Shape.Idx ⟨2, ![72, 128]⟩ → F .f32) (T : Shape.Idx ⟨2, ![3584, 128]⟩ → F .f32)
    (X : Shape.Idx ⟨2, ![71, 128]⟩ → F .f32) : Crossed S T 0 X := fun _ h => absurd h (Nat.not_lt_zero _)

theorem prodI_inj : ∀ k < 71, ∀ k' < 71, prodI k = prodI k' → k = k' := by decide
theorem prodI_pos : ∀ k < 71, 0 < prodI k := by decide

/-- Rows of different features do not meet. -/
theorem tri_apart {i i' j j' : ℕ} (hj : j < i) (hj' : j' < i') (h : i * (i - 1) / 2 + j = i' * (i' - 1) / 2 + j') : i = i' := by
  have tri : ∀ n m : ℕ, n < m → n * (n - 1) / 2 + n ≤ m * (m - 1) / 2 := by
    intro n m hnm
    have h1 : n * (n - 1) + 2 * n ≤ m * (m - 1) := by
      obtain ⟨d, rfl⟩ := Nat.exists_eq_add_of_lt hnm
      rcases n with _ | n
      · simp
      · have h2 := Nat.mul_le_mul (show n + 1 ≤ n + 1 + d by omega) (show n + 2 ≤ n + 1 + d + 1 by omega)
        have h3 : (n + 1) * (n + 1 - 1) + 2 * (n + 1) = (n + 1) * (n + 2) := by
          rw [Nat.add_sub_cancel, Nat.mul_comm 2, ← Nat.mul_add]
        have h4 : (n + 1 + d + 1) * (n + 1 + d + 1 - 1) = (n + 1 + d) * (n + 1 + d + 1) := by
          rw [Nat.add_sub_cancel, Nat.mul_comm]
        rw [h3, h4]
        exact h2
    omega
  rcases lt_trichotomy i i' with hlt | he | hlt
  · have := tri i i' hlt; omega
  · exact he
  · have := tri i' i hlt; omega

/-- The vector the `k`-th store writes. -/
def IsStored (S : Shape.Idx ⟨2, ![72, 128]⟩ → F .f32) (T : Shape.Idx ⟨2, ![3584, 128]⟩ → F .f32) (k n : ℕ)
    (w : Shape.Idx ⟨2, ![n, 128]⟩ → F .f32) : Prop :=
  ∃ (i1 : _) (i2 : _) (i3 : _) (hb : _) (ht : _) (hs : _),
    w = mulf (φ := .f32) (mulf (φ := .f32)
        (broadcastTo (s := ⟨2, ![1, 128]⟩) ⟨2, ![n, 128]⟩
          (fun j => S ((Rect.unit (s := ⟨2, ![72, 128]⟩) ![n, 0] ![1, 128] i1).toLoadRect.idx j)) hb)
        (fun j => S ((Rect.unit (s := ⟨2, ![72, 128]⟩) ![0, 0] ![n, 128] i2).toLoadRect.idx j)))
      (extractStridedSlice (s := ⟨2, ![128, 128]⟩) ⟨2, ![n, 128]⟩ ![slotL (prodJ k), 0]
        (transpose (s := ⟨2, ![128, 128]⟩) ⟨2, ![128, 128]⟩ [1, 0]
          (fun j => T (LoadRect.idx (s := ⟨2, ![3584, 128]⟩) ⟨![8 * slotS (prodJ k) + prodR k, 0], ![128, 128], ![28, 1], i3⟩ j)) ht) hs)

/-- One row spread over one row is itself. -/
theorem spread_one {α : Type} (x : Shape.Idx ⟨2, ![1, 128]⟩ → α) (h : Shape.Broadcasts ⟨2, ![1, 128]⟩ ⟨2, ![1, 128]⟩) :
    broadcastTo (s := ⟨2, ![1, 128]⟩) ⟨2, ![1, 128]⟩ x h = x := by
  funext j
  refine broadcastTo_apply _ _ _ _ fun a => ?_
  have h0 : (j 0).val < 1 := (j 0).isLt
  fin_cases a
  · show (j 0).val = 0
    omega
  · rfl

/-- The whole row of a single row is the row. -/
theorem slice_one {α : Type} (w : Shape.Idx ⟨2, ![1, 128]⟩ → α) :
    ∃ hs, w = extractStridedSlice (s := ⟨2, ![1, 128]⟩) ⟨2, ![1, 128]⟩ ![0, 0] w hs := by
  refine ⟨by decide, funext fun j => (extractStridedSlice_apply _ _ _ _ _ fun a => ?_).symm⟩
  fin_cases a
  · show (j 0).val = 0 + (j 0).val
    omega
  · show (j 1).val = 0 + (j 1).val
    omega

/-- The vector of the feature with one earlier feature, where nothing is spread. -/
theorem IsStored.one {S : Shape.Idx ⟨2, ![72, 128]⟩ → F .f32} {T : Shape.Idx ⟨2, ![3584, 128]⟩ → F .f32} {k : ℕ}
    {w : Shape.Idx ⟨2, ![1, 128]⟩ → F .f32}
    (h : ∃ (i1 : _) (i2 : _) (i3 : _) (ht : _) (hs : _),
      w = mulf (φ := .f32) (mulf (φ := .f32)
        (fun j => S ((Rect.unit (s := ⟨2, ![72, 128]⟩) ![1, 0] ![1, 128] i1).toLoadRect.idx j))
        (fun j => S ((Rect.unit (s := ⟨2, ![72, 128]⟩) ![0, 0] ![1, 128] i2).toLoadRect.idx j)))
      (extractStridedSlice (s := ⟨2, ![128, 128]⟩) ⟨2, ![1, 128]⟩ ![slotL (prodJ k), 0]
        (transpose (s := ⟨2, ![128, 128]⟩) ⟨2, ![128, 128]⟩ [1, 0]
          (fun j => T (LoadRect.idx (s := ⟨2, ![3584, 128]⟩) ⟨![8 * slotS (prodJ k) + prodR k, 0], ![128, 128], ![28, 1], i3⟩ j)) ht) hs)) :
    IsStored S T k 1 w := by
  obtain ⟨i1, i2, i3, ht, hs, rfl⟩ := h
  exact ⟨i1, i2, i3, by decide, ht, hs, by rw [spread_one]; rfl⟩

theorem IsStored.apply {S : Shape.Idx ⟨2, ![72, 128]⟩ → F .f32} {T : Shape.Idx ⟨2, ![3584, 128]⟩ → F .f32} {k n : ℕ}
    {w : Shape.Idx ⟨2, ![n, 128]⟩ → F .f32} (h : IsStored S T k n w) (hn : n = prodI k) (t : Shape.Idx ⟨2, ![n, 128]⟩) :
    IsProd S T k (t 0).val (t 1).val (w t) := by
  obtain ⟨i1, i2, i3, hb, ht, hs, rfl⟩ := h
  intro a b d ha0 ha1 hb0 hb1 hd0 hd1
  have ht1 : (t 1).val < 128 := (t 1).isLt
  have ht0 : (t 0).val < n := (t 0).isLt
  show FloatOps.mulf (FloatOps.mulf _ _) _ = _
  congr 1
  · congr 1
    · let u : Shape.Idx ⟨2, ![1, 128]⟩ := Fin.cons ⟨0, Nat.one_pos⟩ (Fin.cons ⟨(t 1).val, ht1⟩ finZeroElim)
      rw [broadcastTo_apply _ _ _ u ?_]
      · refine congrArg S (funext fun x => Fin.ext ?_)
        fin_cases x
        · show n + 1 * 0 = (a 0).val
          omega
        · show 0 + 1 * (t 1).val = (a 1).val
          omega
      · intro x
        fin_cases x
        · rfl
        · rfl
    · refine congrArg S (funext fun x => Fin.ext ?_)
      fin_cases x
      · show 0 + 1 * (t 0).val = (b 0).val
        omega
      · show 0 + 1 * (t 1).val = (b 1).val
        omega
  · have hl : slotL (prodJ k) + (t 0).val < 128 := by
      have : (d 1).val < 128 := (d 1).isLt
      omega
    let u : Shape.Idx ⟨2, ![128, 128]⟩ := Fin.cons ⟨slotL (prodJ k) + (t 0).val, hl⟩ (Fin.cons ⟨(t 1).val, ht1⟩ finZeroElim)
    let u' : Shape.Idx ⟨2, ![128, 128]⟩ := Fin.cons ⟨(t 1).val, ht1⟩ (Fin.cons ⟨slotL (prodJ k) + (t 0).val, hl⟩ finZeroElim)
    rw [extractStridedSlice_apply _ _ _ _ u ?_, transpose_apply _ _ _ _ u' ?_]
    · refine congrArg T (funext fun x => Fin.ext ?_)
      fin_cases x
      · show 8 * slotS (prodJ k) + prodR k + 28 * (t 1).val = (d 0).val
        omega
      · show 0 + 1 * (slotL (prodJ k) + (t 0).val) = (d 1).val
        omega
    · intro x
      fin_cases x
      · rfl
      · rfl
    · intro x
      fin_cases x
      · rfl
      · show (t 1).val = 0 + (t 1).val
        omega

theorem Multiplied.put {S : Shape.Idx ⟨2, ![72, 128]⟩ → F .f32} {T : Shape.Idx ⟨2, ![3584, 128]⟩ → F .f32}
    {R : Shape.Idx ⟨2, ![160, 128]⟩ → F .f32} {k o n : ℕ} {X : Shape.Idx ⟨2, ![2716, 128]⟩ → F .f32}
    (hX : Multiplied S T R k X) {inb : ∀ a, ![o, 0] a + ![n, 128] a ≤ Shape.size ⟨2, ![2716, 128]⟩ a}
    {w : Shape.Idx ⟨2, ![n, 128]⟩ → F .f32} (hk : k < 71) (hn : n = prodI k) (ho : o = 160 + prodI k * (prodI k - 1) / 2)
    (hw : ∃ w', IsStored S T k n w' ∧ ∃ hc, w = shapeCast ⟨2, ![n, 128]⟩ w' hc) :
    Multiplied S T R (k + 1) (put (s := ⟨2, ![2716, 128]⟩) (Rect.unit ![o, 0] ![n, 128] inb) w X) := by
  obtain ⟨w', hw, hc, rfl⟩ := hw
  rw [shapeCast_self]
  refine ⟨fun q p h0 h1 => ?_, fun k' hk' j hj q hq => ?_⟩
  · rw [put_of_ne _ _ _ _ ?_]
    · exact hX.1 q p h0 h1
    · rintro t rfl
      have : (p 0).val < 160 := (p 0).isLt
      change o + 1 * (t 0).val = (p 0).val at h0
      omega
  · by_cases he : k' = k
    · subst he
      let t : Shape.Idx ⟨2, ![n, 128]⟩ := Fin.cons ⟨j, by show _ < n; omega⟩ (Fin.cons ⟨(q 1).val, (q 1).isLt⟩ finZeroElim)
      have hq' : q = Rect.emb (s := ⟨2, ![2716, 128]⟩) (Rect.unit ![o, 0] ![n, 128] inb) t := by
        funext a
        apply Fin.ext
        fin_cases a
        · show (q 0).val = o + 1 * j
          omega
        · show (q 1).val = 0 + 1 * (q 1).val
          omega
      have := hw.apply hn t
      rw [show (Cert.Proof.put (s := ⟨2, ![2716, 128]⟩) (Rect.unit ![o, 0] ![n, 128] inb) w' X) q = w' t by
        rw [hq']; exact put_emb _ _ _ _]
      exact this
    · rw [put_of_ne _ _ _ _ ?_]
      · exact hX.2 k' (by omega) j hj q hq
      · rintro t rfl
        have ht : (t 0).val < n := (t 0).isLt
        change o + 1 * (t 0).val = 160 + prodI k' * (prodI k' - 1) / 2 + j at hq
        have := tri_apart (i := prodI k) (i' := prodI k') (j := (t 0).val) (j' := j) (by omega) hj (by omega)
        exact he (prodI_inj k' (by omega) k hk this.symm)

theorem Crossed.put {S : Shape.Idx ⟨2, ![72, 128]⟩ → F .f32} {T : Shape.Idx ⟨2, ![3584, 128]⟩ → F .f32}
    {k o n : ℕ} {X : Shape.Idx ⟨2, ![71, 128]⟩ → F .f32}
    (hX : Crossed S T k X) {inb : ∀ a, ![o, 0] a + ![1, 128] a ≤ Shape.size ⟨2, ![71, 128]⟩ a}
    {w : Shape.Idx ⟨2, ![1, 128]⟩ → F .f32} (hk : k < 71) (hn : n = prodI k) (ho : o + 1 = prodI k)
    (hw : ∃ w', IsStored S T k n w' ∧ ∃ hs, w = extractStridedSlice (s := ⟨2, ![n, 128]⟩) ⟨2, ![1, 128]⟩ ![0, 0] w' hs) :
    Crossed S T (k + 1) (put (s := ⟨2, ![71, 128]⟩) (Rect.unit ![o, 0] ![1, 128] inb) w X) := by
  obtain ⟨w', hw, hs, rfl⟩ := hw
  intro k' hk' q hq
  by_cases he : k' = k
  · subst he
    let t : Shape.Idx ⟨2, ![n, 128]⟩ := Fin.cons ⟨0, by show _ < n; omega⟩ (Fin.cons ⟨(q 1).val, (q 1).isLt⟩ finZeroElim)
    let u : Shape.Idx ⟨2, ![1, 128]⟩ := Fin.cons ⟨0, Nat.one_pos⟩ (Fin.cons ⟨(q 1).val, (q 1).isLt⟩ finZeroElim)
    have hq' : q = Rect.emb (s := ⟨2, ![71, 128]⟩) (Rect.unit ![o, 0] ![1, 128] inb) u := by
      funext a
      apply Fin.ext
      fin_cases a
      · show (q 0).val = o + 1 * 0
        omega
      · show (q 1).val = 0 + 1 * (q 1).val
        omega
    have := hw.apply hn t
    rw [show (Cert.Proof.put (s := ⟨2, ![71, 128]⟩) (Rect.unit ![o, 0] ![1, 128] inb)
        (extractStridedSlice (s := ⟨2, ![n, 128]⟩) ⟨2, ![1, 128]⟩ ![0, 0] w' hs) X) q = w' t by
      rw [hq']
      refine (put_emb _ _ _ _).trans (extractStridedSlice_apply _ _ _ _ _ fun x => ?_)
      fin_cases x
      · rfl
      · show (q 1).val = 0 + (q 1).val
        omega]
    exact this
  · rw [put_of_ne _ _ _ _ ?_]
    · exact hX k' (by omega) q hq
    · rintro t rfl
      have ht : (t 0).val < 1 := (t 0).isLt
      change o + 1 * (t 0).val + 1 = prodI k' at hq
      exact he (prodI_inj k' (by omega) k hk (by omega))

end Cert.Proof
-- ==== Proof.Steps.lean ====
/-
  One memory operation of the body at a time: a load reads the buffer's contents, a store in a stage moves the
  stage's invariant on by one.
-/
module

public import proofs.«01_k».proof.Proof.Stages

@[expose] public section

set_option maxRecDepth 16384

noncomputable section

namespace Cert.Proof.Step

open Idealize.ShloMosaic Idealize.ShloMosaic.TcCoe Idealize.SL.Sem Idealize.SL

variable {nD : Nat} {τ : Topo} {sig : RefSig} {F : FTy → Type} [FloatOps F] {Λ : Labels}
  {defs : Defs nD τ sig (Elt F) Λ} {𝒱 : Variants} {c : Dev nD} {β : Type} {Q : β → St (Elt F) → Prop}
  {a1 : Memref sig .tc .vmem ⟨3, ![71, 160, 128]⟩ .i8} {x1 : Shape.Idx ⟨3, ![71, 160, 128]⟩ → Elt F .i8}
  {a2 : Memref sig .tc .vmem ⟨2, ![71, 128]⟩ .f32} {x2 : Shape.Idx ⟨2, ![71, 128]⟩ → Elt F .f32}
  {a3 : Memref sig .tc .vmem ⟨2, ![160, 128]⟩ .bf16} {x3 : Shape.Idx ⟨2, ![160, 128]⟩ → Elt F .bf16}
  {a4 : Memref sig .tc .vmem ⟨2, ![160, 128]⟩ .i8} {x4 : Shape.Idx ⟨2, ![160, 128]⟩ → Elt F .i8}
  {a5 : Memref sig .tc .vmem ⟨2, ![2716, 128]⟩ .fp8e4m3} {x5 : Shape.Idx ⟨2, ![2716, 128]⟩ → Elt F .fp8e4m3}
  {a6 : Memref sig .tc .vmem ⟨1, ![1792]⟩ .f32} {x6 : Shape.Idx ⟨1, ![1792]⟩ → Elt F .f32}
  {a7 : Memref sig .tc .vmem ⟨2, ![71, 128]⟩ .f32} {x7 : Shape.Idx ⟨2, ![71, 128]⟩ → Elt F .f32}
  {a8 : Memref sig .tc .vmem ⟨2, ![160, 128]⟩ .fp8e4m3} {x8 : Shape.Idx ⟨2, ![160, 128]⟩ → Elt F .fp8e4m3}
  {a9 : Memref sig .tc .vmem ⟨1, ![1792]⟩ .f32} {x9 : Shape.Idx ⟨1, ![1792]⟩ → Elt F .f32}
  {a10 : Memref sig .tc .vmem ⟨2, ![2312, 128]⟩ .i32} {x10 : Shape.Idx ⟨2, ![2312, 128]⟩ → Elt F .i32}
  {a11 : Memref sig .tc .vmem ⟨2, ![2312, 128]⟩ .i32} {x11 : Shape.Idx ⟨2, ![2312, 128]⟩ → Elt F .i32}
  {a12 : Memref sig .tc .vmem ⟨2, ![3584, 128]⟩ .f32} {x12 : Shape.Idx ⟨2, ![3584, 128]⟩ → Elt F .f32}
  {a13 : Memref sig .tc .vmem ⟨2, ![2716, 128]⟩ .f32} {x13 : Shape.Idx ⟨2, ![2716, 128]⟩ → Elt F .f32}
  {a14 : Memref sig .tc .vmem ⟨2, ![72, 128]⟩ .f32} {x14 : Shape.Idx ⟨2, ![72, 128]⟩ → Elt F .f32}

theorem load1 {r : LoadRect ⟨3, ![71, 160, 128]⟩} {hl : a1.view.LoadsAt r} {f : (r.shape.Idx → Elt F .i8) → Prog (TpuEff nD τ sig (Elt F) Λ .tc) β}
    (h : Runs defs 𝒱 c ⟨a1, a2, a3, a4, a5, a6, a7, a8, a9, a10, a11, a12, a13, a14⟩ (f fun j => x1 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a1 r hl) >>= f) Q ⟨x1, x2, x3, x4, x5, x6, x7, x8, x9, x10, x11, x12, x13, x14⟩ :=
  Runs.bind (Runs.load1 h)

theorem load2 {r : LoadRect ⟨2, ![71, 128]⟩} {hl : a2.view.LoadsAt r} {f : (r.shape.Idx → Elt F .f32) → Prog (TpuEff nD τ sig (Elt F) Λ .tc) β}
    (h : Runs defs 𝒱 c ⟨a1, a2, a3, a4, a5, a6, a7, a8, a9, a10, a11, a12, a13, a14⟩ (f fun j => x2 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a2 r hl) >>= f) Q ⟨x1, x2, x3, x4, x5, x6, x7, x8, x9, x10, x11, x12, x13, x14⟩ :=
  Runs.bind (Runs.load2 h)

theorem load3 {r : LoadRect ⟨2, ![160, 128]⟩} {hl : a3.view.LoadsAt r} {f : (r.shape.Idx → Elt F .bf16) → Prog (TpuEff nD τ sig (Elt F) Λ .tc) β}
    (h : Runs defs 𝒱 c ⟨a1, a2, a3, a4, a5, a6, a7, a8, a9, a10, a11, a12, a13, a14⟩ (f fun j => x3 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a3 r hl) >>= f) Q ⟨x1, x2, x3, x4, x5, x6, x7, x8, x9, x10, x11, x12, x13, x14⟩ :=
  Runs.bind (Runs.load3 h)

theorem load4 {r : LoadRect ⟨2, ![160, 128]⟩} {hl : a4.view.LoadsAt r} {f : (r.shape.Idx → Elt F .i8) → Prog (TpuEff nD τ sig (Elt F) Λ .tc) β}
    (h : Runs defs 𝒱 c ⟨a1, a2, a3, a4, a5, a6, a7, a8, a9, a10, a11, a12, a13, a14⟩ (f fun j => x4 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a4 r hl) >>= f) Q ⟨x1, x2, x3, x4, x5, x6, x7, x8, x9, x10, x11, x12, x13, x14⟩ :=
  Runs.bind (Runs.load4 h)

theorem load5 {r : LoadRect ⟨2, ![2716, 128]⟩} {hl : a5.view.LoadsAt r} {f : (r.shape.Idx → Elt F .fp8e4m3) → Prog (TpuEff nD τ sig (Elt F) Λ .tc) β}
    (h : Runs defs 𝒱 c ⟨a1, a2, a3, a4, a5, a6, a7, a8, a9, a10, a11, a12, a13, a14⟩ (f fun j => x5 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a5 r hl) >>= f) Q ⟨x1, x2, x3, x4, x5, x6, x7, x8, x9, x10, x11, x12, x13, x14⟩ :=
  Runs.bind (Runs.load5 h)

theorem load6 {r : LoadRect ⟨1, ![1792]⟩} {hl : a6.view.LoadsAt r} {f : (r.shape.Idx → Elt F .f32) → Prog (TpuEff nD τ sig (Elt F) Λ .tc) β}
    (h : Runs defs 𝒱 c ⟨a1, a2, a3, a4, a5, a6, a7, a8, a9, a10, a11, a12, a13, a14⟩ (f fun j => x6 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a6 r hl) >>= f) Q ⟨x1, x2, x3, x4, x5, x6, x7, x8, x9, x10, x11, x12, x13, x14⟩ :=
  Runs.bind (Runs.load6 h)

theorem load7 {r : LoadRect ⟨2, ![71, 128]⟩} {hl : a7.view.LoadsAt r} {f : (r.shape.Idx → Elt F .f32) → Prog (TpuEff nD τ sig (Elt F) Λ .tc) β}
    (h : Runs defs 𝒱 c ⟨a1, a2, a3, a4, a5, a6, a7, a8, a9, a10, a11, a12, a13, a14⟩ (f fun j => x7 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a7 r hl) >>= f) Q ⟨x1, x2, x3, x4, x5, x6, x7, x8, x9, x10, x11, x12, x13, x14⟩ :=
  Runs.bind (Runs.load7 h)

theorem load8 {r : LoadRect ⟨2, ![160, 128]⟩} {hl : a8.view.LoadsAt r} {f : (r.shape.Idx → Elt F .fp8e4m3) → Prog (TpuEff nD τ sig (Elt F) Λ .tc) β}
    (h : Runs defs 𝒱 c ⟨a1, a2, a3, a4, a5, a6, a7, a8, a9, a10, a11, a12, a13, a14⟩ (f fun j => x8 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a8 r hl) >>= f) Q ⟨x1, x2, x3, x4, x5, x6, x7, x8, x9, x10, x11, x12, x13, x14⟩ :=
  Runs.bind (Runs.load8 h)

theorem load9 {r : LoadRect ⟨1, ![1792]⟩} {hl : a9.view.LoadsAt r} {f : (r.shape.Idx → Elt F .f32) → Prog (TpuEff nD τ sig (Elt F) Λ .tc) β}
    (h : Runs defs 𝒱 c ⟨a1, a2, a3, a4, a5, a6, a7, a8, a9, a10, a11, a12, a13, a14⟩ (f fun j => x9 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a9 r hl) >>= f) Q ⟨x1, x2, x3, x4, x5, x6, x7, x8, x9, x10, x11, x12, x13, x14⟩ :=
  Runs.bind (Runs.load9 h)

theorem load10 {r : LoadRect ⟨2, ![2312, 128]⟩} {hl : a10.view.LoadsAt r} {f : (r.shape.Idx → Elt F .i32) → Prog (TpuEff nD τ sig (Elt F) Λ .tc) β}
    (h : Runs defs 𝒱 c ⟨a1, a2, a3, a4, a5, a6, a7, a8, a9, a10, a11, a12, a13, a14⟩ (f fun j => x10 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a10 r hl) >>= f) Q ⟨x1, x2, x3, x4, x5, x6, x7, x8, x9, x10, x11, x12, x13, x14⟩ :=
  Runs.bind (Runs.load10 h)

theorem load11 {r : LoadRect ⟨2, ![2312, 128]⟩} {hl : a11.view.LoadsAt r} {f : (r.shape.Idx → Elt F .i32) → Prog (TpuEff nD τ sig (Elt F) Λ .tc) β}
    (h : Runs defs 𝒱 c ⟨a1, a2, a3, a4, a5, a6, a7, a8, a9, a10, a11, a12, a13, a14⟩ (f fun j => x11 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a11 r hl) >>= f) Q ⟨x1, x2, x3, x4, x5, x6, x7, x8, x9, x10, x11, x12, x13, x14⟩ :=
  Runs.bind (Runs.load11 h)

theorem load12 {r : LoadRect ⟨2, ![3584, 128]⟩} {hl : a12.view.LoadsAt r} {f : (r.shape.Idx → Elt F .f32) → Prog (TpuEff nD τ sig (Elt F) Λ .tc) β}
    (h : Runs defs 𝒱 c ⟨a1, a2, a3, a4, a5, a6, a7, a8, a9, a10, a11, a12, a13, a14⟩ (f fun j => x12 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a12 r hl) >>= f) Q ⟨x1, x2, x3, x4, x5, x6, x7, x8, x9, x10, x11, x12, x13, x14⟩ :=
  Runs.bind (Runs.load12 h)

theorem load13 {r : LoadRect ⟨2, ![2716, 128]⟩} {hl : a13.view.LoadsAt r} {f : (r.shape.Idx → Elt F .f32) → Prog (TpuEff nD τ sig (Elt F) Λ .tc) β}
    (h : Runs defs 𝒱 c ⟨a1, a2, a3, a4, a5, a6, a7, a8, a9, a10, a11, a12, a13, a14⟩ (f fun j => x13 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a13 r hl) >>= f) Q ⟨x1, x2, x3, x4, x5, x6, x7, x8, x9, x10, x11, x12, x13, x14⟩ :=
  Runs.bind (Runs.load13 h)

theorem load14 {r : LoadRect ⟨2, ![72, 128]⟩} {hl : a14.view.LoadsAt r} {f : (r.shape.Idx → Elt F .f32) → Prog (TpuEff nD τ sig (Elt F) Λ .tc) β}
    (h : Runs defs 𝒱 c ⟨a1, a2, a3, a4, a5, a6, a7, a8, a9, a10, a11, a12, a13, a14⟩ (f fun j => x14 (r.idx j)) Q ⟨x1, x2, x3, x4, x5, x6, x7, x8, x9, x10, x11, x12, x13, x14⟩) :
    Runs defs 𝒱 c ⟨a1, a2, a3, a4, a5, a6, a7, a8, a9, a10, a11, a12, a13, a14⟩ (Prog.lift (.load a14 r hl) >>= f) Q ⟨x1, x2, x3, x4, x5, x6, x7, x8, x9, x10, x11, x12, x13, x14⟩ :=
  Runs.bind (Runs.load14 h)

theorem store5 {r : Rect ⟨2, ![2716, 128]⟩} {w : r.shape.Idx → Elt F .fp8e4m3} {hx : (a5.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, put r w x5, x6, x7, x8, x9, x10, x11, x12, x13, x14⟩) :
    Runs defs 𝒱 c ⟨a1, a2, a3, a4, a5, a6, a7, a8, a9, a10, a11, a12, a13, a14⟩ (Prog.lift (.store a5 r w Finset.univ hx hm) >>= f) Q ⟨x1, x2, x3, x4, x5, x6, x7, x8, x9, x10, x11, x12, x13, x14⟩ :=
  Runs.bind (Runs.store5 h)

theorem store6 {r : Rect ⟨1, ![1792]⟩} {w : r.shape.Idx → Elt F .f32} {hx : (a6.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, put r w x6, x7, x8, x9, x10, x11, x12, x13, x14⟩) :
    Runs defs 𝒱 c ⟨a1, a2, a3, a4, a5, a6, a7, a8, a9, a10, a11, a12, a13, a14⟩ (Prog.lift (.store a6 r w Finset.univ hx hm) >>= f) Q ⟨x1, x2, x3, x4, x5, x6, x7, x8, x9, x10, x11, x12, x13, x14⟩ :=
  Runs.bind (Runs.store6 h)

theorem store7 {r : Rect ⟨2, ![71, 128]⟩} {w : r.shape.Idx → Elt F .f32} {hx : (a7.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, put r w x7, x8, x9, x10, x11, x12, x13, x14⟩) :
    Runs defs 𝒱 c ⟨a1, a2, a3, a4, a5, a6, a7, a8, a9, a10, a11, a12, a13, a14⟩ (Prog.lift (.store a7 r w Finset.univ hx hm) >>= f) Q ⟨x1, x2, x3, x4, x5, x6, x7, x8, x9, x10, x11, x12, x13, x14⟩ :=
  Runs.bind (Runs.store7 h)

theorem store8 {r : Rect ⟨2, ![160, 128]⟩} {w : r.shape.Idx → Elt F .fp8e4m3} {hx : (a8.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, x7, put r w x8, x9, x10, x11, x12, x13, x14⟩) :
    Runs defs 𝒱 c ⟨a1, a2, a3, a4, a5, a6, a7, a8, a9, a10, a11, a12, a13, a14⟩ (Prog.lift (.store a8 r w Finset.univ hx hm) >>= f) Q ⟨x1, x2, x3, x4, x5, x6, x7, x8, x9, x10, x11, x12, x13, x14⟩ :=
  Runs.bind (Runs.store8 h)

theorem store9 {r : Rect ⟨1, ![1792]⟩} {w : r.shape.Idx → Elt F .f32} {hx : (a9.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, x7, x8, put r w x9, x10, x11, x12, x13, x14⟩) :
    Runs defs 𝒱 c ⟨a1, a2, a3, a4, a5, a6, a7, a8, a9, a10, a11, a12, a13, a14⟩ (Prog.lift (.store a9 r w Finset.univ hx hm) >>= f) Q ⟨x1, x2, x3, x4, x5, x6, x7, x8, x9, x10, x11, x12, x13, x14⟩ :=
  Runs.bind (Runs.store9 h)

theorem store10 {r : Rect ⟨2, ![2312, 128]⟩} {w : r.shape.Idx → Elt F .i32} {hx : (a10.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, x7, x8, x9, put r w x10, x11, x12, x13, x14⟩) :
    Runs defs 𝒱 c ⟨a1, a2, a3, a4, a5, a6, a7, a8, a9, a10, a11, a12, a13, a14⟩ (Prog.lift (.store a10 r w Finset.univ hx hm) >>= f) Q ⟨x1, x2, x3, x4, x5, x6, x7, x8, x9, x10, x11, x12, x13, x14⟩ :=
  Runs.bind (Runs.store10 h)

theorem store11 {r : Rect ⟨2, ![2312, 128]⟩} {w : r.shape.Idx → Elt F .i32} {hx : (a11.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, x7, x8, x9, x10, put r w x11, x12, x13, x14⟩) :
    Runs defs 𝒱 c ⟨a1, a2, a3, a4, a5, a6, a7, a8, a9, a10, a11, a12, a13, a14⟩ (Prog.lift (.store a11 r w Finset.univ hx hm) >>= f) Q ⟨x1, x2, x3, x4, x5, x6, x7, x8, x9, x10, x11, x12, x13, x14⟩ :=
  Runs.bind (Runs.store11 h)

theorem store12 {r : Rect ⟨2, ![3584, 128]⟩} {w : r.shape.Idx → Elt F .f32} {hx : (a12.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, x7, x8, x9, x10, x11, put r w x12, x13, x14⟩) :
    Runs defs 𝒱 c ⟨a1, a2, a3, a4, a5, a6, a7, a8, a9, a10, a11, a12, a13, a14⟩ (Prog.lift (.store a12 r w Finset.univ hx hm) >>= f) Q ⟨x1, x2, x3, x4, x5, x6, x7, x8, x9, x10, x11, x12, x13, x14⟩ :=
  Runs.bind (Runs.store12 h)

theorem store13 {r : Rect ⟨2, ![2716, 128]⟩} {w : r.shape.Idx → Elt F .f32} {hx : (a13.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, x7, x8, x9, x10, x11, x12, put r w x13, x14⟩) :
    Runs defs 𝒱 c ⟨a1, a2, a3, a4, a5, a6, a7, a8, a9, a10, a11, a12, a13, a14⟩ (Prog.lift (.store a13 r w Finset.univ hx hm) >>= f) Q ⟨x1, x2, x3, x4, x5, x6, x7, x8, x9, x10, x11, x12, x13, x14⟩ :=
  Runs.bind (Runs.store13 h)

theorem store14 {r : Rect ⟨2, ![72, 128]⟩} {w : r.shape.Idx → Elt F .f32} {hx : (a14.access r).Stores Finset.univ}
    {hm : Finset.univ = Finset.univ ∨ ∀ a, r.stride a = 1} {f : PUnit → Prog (TpuEff nD τ sig (Elt F) Λ .tc) β}
    (h : Runs defs 𝒱 c ⟨a1, a2, a3, a4, a5, a6, a7, a8, a9, a10, a11, a12, a13, a14⟩ (f ⟨⟩) Q ⟨x1, x2, x3, x4, x5, x6, x7, x8, x9, x10, x11, x12, x13, put r w x14⟩) :
    Runs defs 𝒱 c ⟨a1, a2, a3, a4, a5, a6, a7, a8, a9, a10, a11, a12, a13, a14⟩ (Prog.lift (.store a14 r w Finset.univ hx hm) >>= f) Q ⟨x1, x2, x3, x4, x5, x6, x7, x8, x9, x10, x11, x12, x13, x14⟩ :=
  Runs.bind (Runs.store14 h)

/-- A store of one group's words. -/
theorem pack10 {P : ℕ → Shape.Idx ⟨2, ![128, 128]⟩ → BitVec 32} {k o : ℕ} (hX : Packed P k x10)
    {inb : ∀ a, ![128, 128] a = 0 ∨ ![o, 0] a + ![18, 1] a * (![128, 128] a - 1) < Shape.size ⟨2, ![2312, 128]⟩ a}
    {hp : ∀ a, 0 < ![18, 1] a} {w : Shape.Idx ⟨2, ![128, 128]⟩ → BitVec 32}
    {hx : (a10.access (⟨⟨![o, 0], ![128, 128], ![18, 1], inb⟩, hp⟩ : Rect ⟨2, ![2312, 128]⟩)).Stores Finset.univ}
    {hm : Finset.univ = Finset.univ ∨ ∀ a, (⟨⟨![o, 0], ![128, 128], ![18, 1], inb⟩, hp⟩ : Rect ⟨2, ![2312, 128]⟩).stride a = 1}
    {f : PUnit → Prog (TpuEff nD τ sig (Elt F) Λ .tc) β} (ho : o = k) (hk : k < 18) (hw : w = P k)
    (h : ∀ x10', Packed P (k + 1) x10' → Runs defs 𝒱 c ⟨a1, a2, a3, a4, a5, a6, a7, a8, a9, a10, a11, a12, a13, a14⟩ (f ⟨⟩) Q ⟨x1, x2, x3, x4, x5, x6, x7, x8, x9, x10', x11, x12, x13, x14⟩) :
    Runs defs 𝒱 c ⟨a1, a2, a3, a4, a5, a6, a7, a8, a9, a10, a11, a12, a13, a14⟩ (Prog.lift (.store a10 (⟨⟨![o, 0], ![128, 128], ![18, 1], inb⟩, hp⟩ : Rect ⟨2, ![2312, 128]⟩) w Finset.univ hx hm) >>= f) Q ⟨x1, x2, x3, x4, x5, x6, x7, x8, x9, x10, x11, x12, x13, x14⟩ :=
  store10 (h _ (hX.put ho hk hw))

/-- A store of one group's words. -/
theorem pack11 {P : ℕ → Shape.Idx ⟨2, ![128, 128]⟩ → BitVec 32} {k o : ℕ} (hX : Packed P k x11)
    {inb : ∀ a, ![128, 128] a = 0 ∨ ![o, 0] a + ![18, 1] a * (![128, 128] a - 1) < Shape.size ⟨2, ![2312, 128]⟩ a}
    {hp : ∀ a, 0 < ![18, 1] a} {w : Shape.Idx ⟨2, ![128, 128]⟩ → BitVec 32}
    {hx : (a11.access (⟨⟨![o, 0], ![128, 128], ![18, 1], inb⟩, hp⟩ : Rect ⟨2, ![2312, 128]⟩)).Stores Finset.univ}
    {hm : Finset.univ = Finset.univ ∨ ∀ a, (⟨⟨![o, 0], ![128, 128], ![18, 1], inb⟩, hp⟩ : Rect ⟨2, ![2312, 128]⟩).stride a = 1}
    {f : PUnit → Prog (TpuEff nD τ sig (Elt F) Λ .tc) β} (ho : o = k) (hk : k < 18) (hw : w = P k)
    (h : ∀ x11', Packed P (k + 1) x11' → Runs defs 𝒱 c ⟨a1, a2, a3, a4, a5, a6, a7, a8, a9, a10, a11, a12, a13, a14⟩ (f ⟨⟩) Q ⟨x1, x2, x3, x4, x5, x6, x7, x8, x9, x10, x11', x12, x13, x14⟩) :
    Runs defs 𝒱 c ⟨a1, a2, a3, a4, a5, a6, a7, a8, a9, a10, a11, a12, a13, a14⟩ (Prog.lift (.store a11 (⟨⟨![o, 0], ![128, 128], ![18, 1], inb⟩, hp⟩ : Rect ⟨2, ![2312, 128]⟩) w Finset.univ hx hm) >>= f) Q ⟨x1, x2, x3, x4, x5, x6, x7, x8, x9, x10, x11, x12, x13, x14⟩ :=
  store11 (h _ (hX.put ho hk hw))

/-- A store of one slot of a gram matrix. -/
theorem slot {G : ℕ → Shape.Idx ⟨2, ![96, 96]⟩ → F .f32} {k o0 o1 n1 : ℕ} (hX : Slotted G k x12)
    {inb : ∀ a, ![o0, o1] a + ![8, n1] a ≤ Shape.size ⟨2, ![3584, 128]⟩ a} {w : Shape.Idx ⟨2, ![8, n1]⟩ → Elt F .f32}
    {hx : (a12.access (Rect.unit (s := ⟨2, ![3584, 128]⟩) ![o0, o1] ![8, n1] inb)).Stores Finset.univ}
    {hm : Finset.univ = Finset.univ ∨ ∀ a, (Rect.unit (s := ⟨2, ![3584, 128]⟩) ![o0, o1] ![8, n1] inb).stride a = 1}
    {f : PUnit → Prog (TpuEff nD τ sig (Elt F) Λ .tc) β}
    (h0 : o0 = 28 * (k / 9) + 8 * slotS (k % 9)) (h1 : o1 = slotL (k % 9)) (hn : n1 = 8 * slotV (k % 9) + 8)
    (hw : ∃ hs hc, w = shapeCast ⟨2, ![8, n1]⟩
      (extractStridedSlice (s := ⟨2, ![96, 96]⟩) ⟨2, ![8, n1]⟩ ![8 * slotV (k % 9), 0] (G (k / 9)) hs) hc)
    (h : ∀ x12', Slotted G (k + 1) x12' → Runs defs 𝒱 c ⟨a1, a2, a3, a4, a5, a6, a7, a8, a9, a10, a11, a12, a13, a14⟩ (f ⟨⟩) Q ⟨x1, x2, x3, x4, x5, x6, x7, x8, x9, x10, x11, x12', x13, x14⟩) :
    Runs defs 𝒱 c ⟨a1, a2, a3, a4, a5, a6, a7, a8, a9, a10, a11, a12, a13, a14⟩ (Prog.lift (.store a12 (Rect.unit (s := ⟨2, ![3584, 128]⟩) ![o0, o1] ![8, n1] inb) w Finset.univ hx hm) >>= f) Q ⟨x1, x2, x3, x4, x5, x6, x7, x8, x9, x10, x11, x12, x13, x14⟩ :=
  store12 (h _ (hX.put h0 h1 hn hw))

/-- A store of one feature's products. -/
theorem prod {R : Shape.Idx ⟨2, ![160, 128]⟩ → F .f32} {k o n : ℕ} (hX : Multiplied x14 x12 R k x13)
    {inb : ∀ a, ![o, 0] a + ![n, 128] a ≤ Shape.size ⟨2, ![2716, 128]⟩ a} {w : Shape.Idx ⟨2, ![n, 128]⟩ → Elt F .f32}
    {hx : (a13.access (Rect.unit (s := ⟨2, ![2716, 128]⟩) ![o, 0] ![n, 128] inb)).Stores Finset.univ}
    {hm : Finset.univ = Finset.univ ∨ ∀ a, (Rect.unit (s := ⟨2, ![2716, 128]⟩) ![o, 0] ![n, 128] inb).stride a = 1}
    {f : PUnit → Prog (TpuEff nD τ sig (Elt F) Λ .tc) β}
    (hk : k < 71) (hn : n = prodI k) (ho : o = 160 + prodI k * (prodI k - 1) / 2)
    (hw : ∃ w', IsStored x14 x12 k n w' ∧ ∃ hc, w = shapeCast ⟨2, ![n, 128]⟩ w' hc)
    (h : ∀ x13', Multiplied x14 x12 R (k + 1) x13' → Runs defs 𝒱 c ⟨a1, a2, a3, a4, a5, a6, a7, a8, a9, a10, a11, a12, a13, a14⟩ (f ⟨⟩) Q ⟨x1, x2, x3, x4, x5, x6, x7, x8, x9, x10, x11, x12, x13', x14⟩) :
    Runs defs 𝒱 c ⟨a1, a2, a3, a4, a5, a6, a7, a8, a9, a10, a11, a12, a13, a14⟩ (Prog.lift (.store a13 (Rect.unit (s := ⟨2, ![2716, 128]⟩) ![o, 0] ![n, 128] inb) w Finset.univ hx hm) >>= f) Q ⟨x1, x2, x3, x4, x5, x6, x7, x8, x9, x10, x11, x12, x13, x14⟩ :=
  store13 (h _ (hX.put hk hn ho hw))

/-- A store of one feature's product with feature 0. -/
theorem cross {k o : ℕ} (hX : Crossed x14 x12 k x7)
    {inb : ∀ a, ![o, 0] a + ![1, 128] a ≤ Shape.size ⟨2, ![71, 128]⟩ a} {w : Shape.Idx ⟨2, ![1, 128]⟩ → Elt F .f32}
    {hx : (a7.access (Rect.unit (s := ⟨2, ![71, 128]⟩) ![o, 0] ![1, 128] inb)).Stores Finset.univ}
    {hm : Finset.univ = Finset.univ ∨ ∀ a, (Rect.unit (s := ⟨2, ![71, 128]⟩) ![o, 0] ![1, 128] inb).stride a = 1}
    {f : PUnit → Prog (TpuEff nD τ sig (Elt F) Λ .tc) β}
    (hk : k < 71) (ho : o + 1 = prodI k)
    (hw : ∃ w', IsStored x14 x12 k (prodI k) w' ∧
      ∃ hs, w = extractStridedSlice (s := ⟨2, ![prodI k, 128]⟩) ⟨2, ![1, 128]⟩ ![0, 0] w' hs)
    (h : ∀ x7', Crossed x14 x12 (k + 1) x7' → Runs defs 𝒱 c ⟨a1, a2, a3, a4, a5, a6, a7, a8, a9, a10, a11, a12, a13, a14⟩ (f ⟨⟩) Q ⟨x1, x2, x3, x4, x5, x6, x7', x8, x9, x10, x11, x12, x13, x14⟩) :
    Runs defs 𝒱 c ⟨a1, a2, a3, a4, a5, a6, a7, a8, a9, a10, a11, a12, a13, a14⟩ (Prog.lift (.store a7 (Rect.unit (s := ⟨2, ![71, 128]⟩) ![o, 0] ![1, 128] inb) w Finset.univ hx hm) >>= f) Q ⟨x1, x2, x3, x4, x5, x6, x7, x8, x9, x10, x11, x12, x13, x14⟩ :=
  store7 (h _ (hX.put hk rfl ho hw))

/-- The end of a part. -/
theorem tail {α : Type} {e : TpuEff nD τ sig (Elt F) Λ .tc α} {Q : α → St (Elt F) → Prop} {x : St (Elt F)}
    (h : Runs defs 𝒱 c ⟨a1, a2, a3, a4, a5, a6, a7, a8, a9, a10, a11, a12, a13, a14⟩ (Prog.lift e >>= pure) Q x) :
    Runs defs 𝒱 c ⟨a1, a2, a3, a4, a5, a6, a7, a8, a9, a10, a11, a12, a13, a14⟩ (Prog.lift e) Q x := by
  rwa [Prog.bind_pure] at h

theorem done {α : Type} {J : St (Elt F) → Prop} {x : St (Elt F)} {a : α} (h : J x) :
    Runs defs 𝒱 c ⟨a1, a2, a3, a4, a5, a6, a7, a8, a9, a10, a11, a12, a13, a14⟩ (pure a) (fun b y => b = a ∧ J y) x := Runs.ret ⟨rfl, h⟩

end Cert.Proof.Step
-- ==== Proof.RunKernel.lean ====
/-
  The body of the kernel, run over its fourteen buffers: what every buffer holds at the end, as a function of what
  the inputs hold at the start.
-/
module

public import proofs.«01_k».proof.Proof.Steps
public import proofs.«01_k».proof.Proof.Gen.Kernel.Skeleton

@[expose] public section

set_option maxRecDepth 16384
set_option maxHeartbeats 0
set_option synthInstance.maxSize 4096

noncomputable section

namespace Cert.Kernel.Run

open Cert.Proof Cert.Kernel.Gen
open Idealize.ShloMosaic Idealize.ShloMosaic.TcCoe Idealize.SL.Sem Idealize.SL

variable {F : FTy → Type} [FloatOps F]

/-- The 24 rows of words matrix `b` is multiplied from. -/
def rowsAt (b : ℕ) : LoadRect S2312x128 :=
  (Rect.unit (s := S2312x128) ![18 * (b % 128), 0] S24x128.size (by
    intro a
    have := Nat.mod_lt b (show 0 < 128 by omega)
    fin_cases a
    · show 18 * (b % 128) + 24 ≤ 2312
      omega
    · show 0 + 128 ≤ 128
      omega)).toLoadRect

/-- Gram matrix `b` of the words `W0` and `W1`. -/
def gram (W0 W1 : S2312x128.Idx → Elt F .i32) (b : ℕ) : FVec F S96x96 .f32 :=
  k0_pay205 (fun j => W0 ((rowsAt b).idx j)) (fun j => W1 ((rowsAt b).idx j))

/-- The bytes of embedding `f`. -/
def embAt (f : ℕ) : LoadRect S71x160x128 :=
  (Rect.unit (s := S71x160x128) ![f % 71, 0, 0] S1x160x128.size (by
    intro a
    have := Nat.mod_lt f (show 0 < 71 by omega)
    fin_cases a
    · show f % 71 + 1 ≤ 71
      omega
    · show 0 + 160 ≤ 160
      omega
    · show 0 + 128 ≤ 128
      omega)).toLoadRect

/-- The code bytes of feature `f`: feature 0 is `x`. -/
def bytes (x1 : S71x160x128.Idx → BitVec 8) (x4 : S160x128.Idx → BitVec 8) : ℕ → IVec S160x128 8
  | 0 => shapeCast S160x128 (fun j => x4 ((Rect.unit (s := S160x128) ![0, 0] S160x128.size inb_S160x128_S160x128_0_0).toLoadRect.idx j))
      shapeCasts_S160x128_S160x128
  | f + 1 => shapeCast S160x128 (fun j => x1 ((embAt f).idx j)) shapeCasts_S1x160x128_S160x128

/-- The words of the four features of group `g`. -/
def wordsOf (x1 : S71x160x128.Idx → BitVec 8) (x4 : S160x128.Idx → BitVec 8) (g : ℕ) : IVec S160x128 32 :=
  packElementwiseInt 8 ![extsi 32 (bytes x1 x4 (4 * g)) natLt_8_32, extsi 32 (bytes x1 x4 (4 * g + 1)) natLt_8_32,
    extsi 32 (bytes x1 x4 (4 * g + 2)) natLt_8_32, extsi 32 (bytes x1 x4 (4 * g + 3)) natLt_8_32]

/-- The words of the first 128 elements, one batch lane a row. -/
def words0 (x1 : S71x160x128.Idx → BitVec 8) (x4 : S160x128.Idx → BitVec 8) (g : ℕ) : IVec S128x128 32 :=
  shapeCast S128x128 (transpose S128x128 [1, 0] (extractStridedSlice S128x128 ![0, 0] (wordsOf x1 x4 g) slices_S160x128_o0_0_S128x128)
    transposes_S128x128_p1_0_S128x128) shapeCasts_S128x128_S128x128

/-- The words of the last 32 elements, followed by zeros. -/
def words1 (x1 : S71x160x128.Idx → BitVec 8) (x4 : S160x128.Idx → BitVec 8) (g : ℕ) : IVec S128x128 32 :=
  shapeCast S128x128 (transpose S128x128 [1, 0] (concatenate S128x128 0
    [⟨S32x128, extractStridedSlice S32x128 ![128, 0] (wordsOf x1 x4 g) slices_S160x128_o128_0_S32x128⟩,
     ⟨S96x128, broadcast S96x128 0#32⟩] concatenates_S32x128_S96x128_S128x128_d0)
    transposes_S128x128_p1_0_S128x128) shapeCasts_S128x128_S128x128

/-- The whole block of `x`. -/
def wholeX (x3 : S160x128.Idx → Elt F .bf16) : Vec F S160x128 .bf16 :=
  fun j => x3 ((Rect.unit (s := S160x128) ![0, 0] S160x128.size inb_S160x128_S160x128_0_0).toLoadRect.idx j)

/-- The exponent field of the scale of `x`. -/
def xField (v : Vec F S160x128 .bf16) : IVec S1x128 32 := k0_pay8 (k0_pay5 v) (k0_pay6 v) (k0_pay7 v)
/-- The codes of `x`. -/
def xCodes (v : Vec F S160x128 .bf16) : FVec F S160x128 .fp8e4m3 :=
  k0_pay13 (k0_pay4 v) (k0_pay5 v) (xField v) (k0_pay9 (k0_pay5 v)) k0_pay10
/-- The scales of `x`. -/
def xScale (v : Vec F S160x128 .bf16) : FVec F S128 .f32 :=
  k0_pay14 (k0_pay5 v) (xField v) (k0_pay9 (k0_pay5 v)) k0_pay10
/-- The scales of `x`, as a row. -/
def xScaleRow (v : Vec F S160x128 .bf16) : FVec F S1x128 .f32 :=
  k0_pay15 (k0_pay5 v) (xField v) (k0_pay9 (k0_pay5 v)) k0_pay10

/-- The rows of scales: those of `x`, then those of the embeddings. -/
def scales (x2 : S71x128.Idx → Elt F .f32) (x3 : S160x128.Idx → Elt F .bf16) (x14 : S72x128.Idx → Elt F .f32) : S72x128.Idx → Elt F .f32 :=
  put (Rect.unit (s := S72x128) ![1, 0] S71x128.size inb_S72x128_S71x128_1_0)
    (k0_pay17 (k0_pay16 fun j => x2 ((Rect.unit (s := S71x128) ![0, 0] S71x128.size inb_S71x128_S71x128_0_0).toLoadRect.idx j)))
    (put (Rect.unit (s := S72x128) ![0, 0] S1x128.size inb_S72x128_S1x128_0_0) (xScaleRow (wholeX x3)) x14)

/-- Where this point's scales go. -/
abbrev segment (i : grid0.Coords) : Rect S1792 := Rect.unit (s := S1792) (k0_off1 i) S128.size (k0_off1_inb i)

/-- The quantiser of `x`, the packing and the first matrices. -/
theorem run_204 (defs : Defs nD τ sig (Elt F) Λ₀) (𝒱 : Variants) (c : Dev nD) (i : grid0.Coords) (arg1 : Memref sig .tc .vmem S71x160x128 .i8) (harg1 : arg1.IsWhole) (arg2 : Memref sig .tc .vmem S71x128 .f32) (harg2 : arg2.IsWhole) (arg3 : Memref sig .tc .vmem S160x128 .bf16) (harg3 : arg3.IsWhole) (arg4 : Memref sig .tc .vmem S160x128 .i8) (harg4 : arg4.IsWhole) (arg5 : Memref sig .tc .vmem S2716x128 .fp8e4m3) (harg5 : arg5.IsWhole) (arg6 : Memref sig .tc .vmem S1792 .f32) (harg6 : arg6.IsWhole) (arg7 : Memref sig .tc .vmem S71x128 .f32) (harg7 : arg7.IsWhole) (arg8 : Memref sig .tc .vmem S160x128 .fp8e4m3) (harg8 : arg8.IsWhole) (arg9 : Memref sig .tc .vmem S1792 .f32) (harg9 : arg9.IsWhole) (arg10 : Memref sig .tc .vmem S2312x128 .i32) (harg10 : arg10.IsWhole) (arg11 : Memref sig .tc .vmem S2312x128 .i32) (harg11 : arg11.IsWhole) (arg12 : Memref sig .tc .vmem S3584x128 .f32) (harg12 : arg12.IsWhole) (arg13 : Memref sig .tc .vmem S2716x128 .f32) (harg13 : arg13.IsWhole) (arg14 : Memref sig .tc .vmem S72x128 .f32) (harg14 : arg14.IsWhole) x1 x2 x3 x4 x5 x6 x7 x8 x9 x10 x11 x12 x13 x14 {β : Type}
    (f : _ → Prog (TpuEff nD τ sig (Elt F) Λ₀ .tc) β) (Q : β → St (Elt F) → Prop)
    (hf : ∀ x10' x11' x12', Packed (words0 x1 x4) 18 x10' → Packed (words1 x1 x4) 18 x11' → Slotted (gram x10' x11') 317 x12' →
      Runs defs 𝒱 c ⟨arg1, arg2, arg3, arg4, arg5, arg6, arg7, arg8, arg9, arg10, arg11, arg12, arg13, arg14⟩ (f ⟨BitVec.ofNat 32 (i 0).val, gram x10' x11' 35,
        extractStridedSlice S8x64 ![56, 0] (gram x10' x11' 35) slices_S96x96_o56_0_S8x64⟩) Q
        ⟨x1, x2, x3, x4, x5, x6, x7, put (Rect.unit (s := S160x128) ![0, 0] S160x128.size inb_S160x128_S160x128_0_0) (xCodes (wholeX x3)) x8, put (segment i) (xScale (wholeX x3)) x9, x10', x11', x12', put (Rect.unit (s := S2716x128) ![0, 0] S160x128.size inb_S2716x128_S160x128_0_0) (k0_pay18 (k0_pay4 (wholeX x3))) x13, scales x2 x3 x14⟩) :
    Runs defs 𝒱 c ⟨arg1, arg2, arg3, arg4, arg5, arg6, arg7, arg8, arg9, arg10, arg11, arg12, arg13, arg14⟩ (k0_part204 i arg1 harg1 arg2 harg2 arg3 harg3 arg4 harg4 arg5 harg5 arg6 harg6 arg7 harg7 arg8 harg8 arg9 harg9 arg10 harg10 arg11 harg11 arg12 harg12 arg13 harg13 arg14 harg14 >>= f) Q ⟨x1, x2, x3, x4, x5, x6, x7, x8, x9, x10, x11, x12, x13, x14⟩ := by
  refine Runs.bind ?_
  show Runs _ _ _ _ (_ >>= _) _ _
  rw [k0_part1_eq_skeleton]
  refine Runs.bind (Runs.mono (Q := fun b y => b = ⟨BitVec.ofNat 32 (i 0).val, k0_pay4 (wholeX x3), k0_pay5 (wholeX x3), k0_pay6 (wholeX x3), k0_pay7 (wholeX x3)⟩ ∧
    ∃ x10' x11', y = ⟨x1, x2, x3, x4, x5, x6, x7, x8, x9, x10', x11', x12, x13, x14⟩) ?_ ?_)
  · unfold k0_part1_skel
    dsimp only
    split
    · refine Step.load10 ?_
      refine Step.store10 ?_
      refine Step.load11 ?_
      refine Step.store11 ?_
      refine Step.load3 ?_
      exact Runs.ret ⟨rfl, _, _, rfl⟩
    · refine Step.load3 ?_
      exact Runs.ret ⟨rfl, _, _, rfl⟩
  rintro _ _ ⟨rfl, x10', x11', rfl⟩
  clear x10 x11
  rename' x10' => x10, x11' => x11
  show Runs _ _ _ _ (_ >>= _) _ _
  rw [k0_part2_eq_skeleton]
  refine Runs.bind ?_
  refine Runs.ret ?_
  show Runs _ _ _ _ (_ >>= _) _ _
  rw [k0_part3_eq_skeleton]
  refine Runs.bind ?_
  show Runs _ _ _ _ (_ >>= _) _ _
  refine Step.load8 ?_
  refine Step.store8 ?_
  refine Step.load9 ?_
  refine Step.store9 ?_
  refine Step.load14 ?_
  refine Step.store14 ?_
  refine Step.load2 ?_
  refine Step.load14 ?_
  refine Runs.ret ?_
  show Runs _ _ _ _ (_ >>= _) _ _
  rw [k0_part4_eq_skeleton]
  refine Runs.bind ?_
  show Runs _ _ _ _ (_ >>= _) _ _
  refine Step.store14 ?_
  refine Step.load13 ?_
  refine Step.store13 ?_
  have hx10 := Packed.zero (words0 x1 x4) x10
  have hx11 := Packed.zero (words1 x1 x4) x11
  repeat' first
    | with_reducible refine Step.load1 ?_
    | with_reducible refine Step.load4 ?_
    | with_reducible refine Step.load10 ?_
    | with_reducible refine Step.load11 ?_
    | (with_reducible refine Step.pack10 (P := words0 x1 x4) hx10 ?h0 ?h1 ?hw ?_
       case h0 => rfl
       case h1 => decide
       case hw => rfl
       clear hx10
       intro x10' hx10
       simp only [Nat.reduceAdd] at hx10
       try clear x10
       rename' x10' => x10)
    | (with_reducible refine Step.pack11 (P := words1 x1 x4) hx11 ?h0 ?h1 ?hw ?_
       case h0 => rfl
       case h1 => decide
       case hw => rfl
       clear hx11
       intro x11' hx11
       simp only [Nat.reduceAdd] at hx11
       try clear x11
       rename' x11' => x11)
    | (with_reducible refine Runs.bind ?_
       show Runs _ _ _ _ (_ >>= _) _ _)
    | (with_reducible refine Runs.ret ?_
       show Runs _ _ _ _ (_ >>= _) _ _)
    | with_reducible refine Step.tail ?_
  have hx12 := Slotted.zero (gram x10 x11) x12
  repeat' first
    | with_reducible refine Step.load12 ?_
    | with_reducible refine Step.load10 ?_
    | with_reducible refine Step.load11 ?_
    | (with_reducible refine Step.slot (G := gram x10 x11) hx12 ?h0 ?h1 ?h2 ?hw ?_
       case h0 => rfl
       case h1 => rfl
       case h2 => rfl
       case hw => exact ⟨_, _, rfl⟩
       clear hx12
       intro x12' hx12
       simp only [Nat.reduceAdd] at hx12
       try clear x12
       rename' x12' => x12)
    | (with_reducible refine Runs.bind ?_
       show Runs _ _ _ _ (_ >>= _) _ _)
    | (with_reducible refine Runs.ret ?_
       show Runs _ _ _ _ (_ >>= _) _ _)
    | with_reducible refine Step.tail ?_
  exact Runs.ret (Runs.ret (hf _ _ _ hx10 hx11 hx12))

/-- Matrices 35 to 83. -/
theorem run_205 (defs : Defs nD τ sig (Elt F) Λ₀) (𝒱 : Variants) (c : Dev nD) (i : grid0.Coords) (arg1 : Memref sig .tc .vmem S71x160x128 .i8) (harg1 : arg1.IsWhole) (arg2 : Memref sig .tc .vmem S71x128 .f32) (harg2 : arg2.IsWhole) (arg3 : Memref sig .tc .vmem S160x128 .bf16) (harg3 : arg3.IsWhole) (arg4 : Memref sig .tc .vmem S160x128 .i8) (harg4 : arg4.IsWhole) (arg5 : Memref sig .tc .vmem S2716x128 .fp8e4m3) (harg5 : arg5.IsWhole) (arg6 : Memref sig .tc .vmem S1792 .f32) (harg6 : arg6.IsWhole) (arg7 : Memref sig .tc .vmem S71x128 .f32) (harg7 : arg7.IsWhole) (arg8 : Memref sig .tc .vmem S160x128 .fp8e4m3) (harg8 : arg8.IsWhole) (arg9 : Memref sig .tc .vmem S1792 .f32) (harg9 : arg9.IsWhole) (arg10 : Memref sig .tc .vmem S2312x128 .i32) (harg10 : arg10.IsWhole) (arg11 : Memref sig .tc .vmem S2312x128 .i32) (harg11 : arg11.IsWhole) (arg12 : Memref sig .tc .vmem S3584x128 .f32) (harg12 : arg12.IsWhole) (arg13 : Memref sig .tc .vmem S2716x128 .f32) (harg13 : arg13.IsWhole) (arg14 : Memref sig .tc .vmem S72x128 .f32) (harg14 : arg14.IsWhole) x1 x2 x3 x4 x5 x6 x7 x8 x9 x10 x11 x12 x13 x14 {β : Type}
    (f : _ → Prog (TpuEff nD τ sig (Elt F) Λ₀ .tc) β) (Q : β → St (Elt F) → Prop) (hx12 : Slotted (gram x10 x11) 317 x12)
    (hf : ∀ x12', Slotted (gram x10 x11) 756 x12' →
      Runs defs 𝒱 c ⟨arg1, arg2, arg3, arg4, arg5, arg6, arg7, arg8, arg9, arg10, arg11, arg12, arg13, arg14⟩ (f (bitcastToFloat .fp8e4m3 (bitcast S96x128 8 (fun j => x10 ((rowsAt 84).idx j)) bitcasts_S24x128_w32_S96x128_w8))) Q
        ⟨x1, x2, x3, x4, x5, x6, x7, x8, x9, x10, x11, x12', x13, x14⟩) :
    Runs defs 𝒱 c ⟨arg1, arg2, arg3, arg4, arg5, arg6, arg7, arg8, arg9, arg10, arg11, arg12, arg13, arg14⟩ (k0_part205 i arg1 harg1 arg2 harg2 arg3 harg3 arg4 harg4 arg5 harg5 arg6 harg6 arg7 harg7 arg8 harg8 arg9 harg9 arg10 harg10 arg11 harg11 arg12 harg12 arg13 harg13 arg14 harg14 (gram x10 x11 35) (extractStridedSlice S8x64 ![56, 0] (gram x10 x11 35) slices_S96x96_o56_0_S8x64) >>= f) Q ⟨x1, x2, x3, x4, x5, x6, x7, x8, x9, x10, x11, x12, x13, x14⟩ := by
  refine Runs.bind ?_
  show Runs _ _ _ _ (_ >>= _) _ _
  repeat' first
    | with_reducible refine Step.load12 ?_
    | with_reducible refine Step.load10 ?_
    | with_reducible refine Step.load11 ?_
    | (with_reducible refine Step.slot (G := gram x10 x11) hx12 ?h0 ?h1 ?h2 ?hw ?_
       case h0 => rfl
       case h1 => rfl
       case h2 => rfl
       case hw => exact ⟨_, _, rfl⟩
       clear hx12
       intro x12' hx12
       simp only [Nat.reduceAdd] at hx12
       try clear x12
       rename' x12' => x12)
    | (with_reducible refine Runs.bind ?_
       show Runs _ _ _ _ (_ >>= _) _ _)
    | (with_reducible refine Runs.ret ?_
       show Runs _ _ _ _ (_ >>= _) _ _)
    | with_reducible refine Step.tail ?_
  exact Runs.ret (hf _ hx12)

/-- The whole block of results before they are quantised. -/
def wholeZ (x13 : S2716x128.Idx → Elt F .f32) : Vec F S2716x128 .f32 :=
  fun j => x13 ((Rect.unit (s := S2716x128) ![0, 0] S2716x128.size inb_S2716x128_S2716x128_0_0).toLoadRect.idx j)
/-- The exponent field of the scale of the results. -/
def zField (m : Vec F S2716x128 .f32) : IVec S1x128 32 := k0_pay1740 (k0_pay1736 m) k0_pay1737 (k0_pay1738 m) k0_pay1739
/-- Where the scale of the results is a number. -/
def zMask (m : Vec F S2716x128 .f32) : IVec S1x128 1 := k0_pay1741 (k0_pay1736 m) k0_pay1737 (k0_pay1738 m) k0_pay1739
/-- The exponent field where it is not. -/
def zElse (m : Vec F S2716x128 .f32) : IVec S1x128 32 := k0_pay1742 (k0_pay1736 m) k0_pay1737 (k0_pay1738 m) k0_pay1739
/-- The codes of the results. -/
def zCodes (m : Vec F S2716x128 .f32) : FVec F S2716x128 .fp8e4m3 := k0_pay1 m (k0_pay1744 (k0_pay1736 m) (zField m) (zMask m) (zElse m))
/-- The scales of the results. -/
def zScale (m : Vec F S2716x128 .f32) : FVec F S128 .f32 := k0_pay1745 (k0_pay1736 m) (zField m) (zMask m) (zElse m)

/-- What the body leaves of the contents it finds. -/
def After (i : grid0.Coords) (x y : St (Elt F)) : Prop :=
  ∃ x10' x11' x12' x13' x7', Packed (words0 x.c1 x.c4) 18 x10' ∧ Packed (words1 x.c1 x.c4) 18 x11' ∧
    Slotted (gram x10' x11') 1152 x12' ∧ Multiplied (scales x.c2 x.c3 x.c14) x12' (k0_pay18 (k0_pay4 (wholeX x.c3))) 71 x13' ∧
    Crossed (scales x.c2 x.c3 x.c14) x12' 71 x7' ∧
    y = ⟨x.c1, x.c2, x.c3, x.c4, put (Rect.unit (s := S2716x128) ![0, 0] S2716x128.size inb_S2716x128_S2716x128_0_0) (zCodes (wholeZ x13')) x.c5, put (segment i) (zScale (wholeZ x13')) x.c6, x7', put (Rect.unit (s := S160x128) ![0, 0] S160x128.size inb_S160x128_S160x128_0_0) (xCodes (wholeX x.c3)) x.c8, put (segment i) (xScale (wholeX x.c3)) x.c9, x10', x11', x12', x13', scales x.c2 x.c3 x.c14⟩

/-- The run of the body. -/
theorem run_body (defs : Defs nD τ sig (Elt F) Λ₀) (𝒱 : Variants) (c : Dev nD) (i : grid0.Coords) (arg1 : Memref sig .tc .vmem S71x160x128 .i8) (harg1 : arg1.IsWhole) (arg2 : Memref sig .tc .vmem S71x128 .f32) (harg2 : arg2.IsWhole) (arg3 : Memref sig .tc .vmem S160x128 .bf16) (harg3 : arg3.IsWhole) (arg4 : Memref sig .tc .vmem S160x128 .i8) (harg4 : arg4.IsWhole) (arg5 : Memref sig .tc .vmem S2716x128 .fp8e4m3) (harg5 : arg5.IsWhole) (arg6 : Memref sig .tc .vmem S1792 .f32) (harg6 : arg6.IsWhole) (arg7 : Memref sig .tc .vmem S71x128 .f32) (harg7 : arg7.IsWhole) (arg8 : Memref sig .tc .vmem S160x128 .fp8e4m3) (harg8 : arg8.IsWhole) (arg9 : Memref sig .tc .vmem S1792 .f32) (harg9 : arg9.IsWhole) (arg10 : Memref sig .tc .vmem S2312x128 .i32) (harg10 : arg10.IsWhole) (arg11 : Memref sig .tc .vmem S2312x128 .i32) (harg11 : arg11.IsWhole) (arg12 : Memref sig .tc .vmem S3584x128 .f32) (harg12 : arg12.IsWhole) (arg13 : Memref sig .tc .vmem S2716x128 .f32) (harg13 : arg13.IsWhole) (arg14 : Memref sig .tc .vmem S72x128 .f32) (harg14 : arg14.IsWhole) x1 x2 x3 x4 x5 x6 x7 x8 x9 x10 x11 x12 x13 x14 :
    Runs defs 𝒱 c ⟨arg1, arg2, arg3, arg4, arg5, arg6, arg7, arg8, arg9, arg10, arg11, arg12, arg13, arg14⟩ (cc0__body i arg1 harg1 arg2 harg2 arg3 harg3 arg4 harg4 arg5 harg5 arg6 harg6 arg7 harg7 arg8 harg8 arg9 harg9 arg10 harg10 arg11 harg11 arg12 harg12 arg13 harg13 arg14 harg14) (fun _ y => After i ⟨x1, x2, x3, x4, x5, x6, x7, x8, x9, x10, x11, x12, x13, x14⟩ y) ⟨x1, x2, x3, x4, x5, x6, x7, x8, x9, x10, x11, x12, x13, x14⟩ := by
  rw [cc0__body_eq_skeleton]
  show Runs _ _ _ _ (_ >>= _) _ _
  apply run_204
  intro x10' x11' x12' hx10 hx11 hx12
  show Runs _ _ _ _ (_ >>= _) _ _
  apply run_205 (hx12 := hx12)
  clear hx12 x12'
  intro x12' hx12
  have hR : ∀ (q : Shape.Idx ⟨2, ![2716, 128]⟩) (p : Shape.Idx ⟨2, ![160, 128]⟩), (q 0).val = (p 0).val → (q 1).val = (p 1).val →
      put (Rect.unit (s := S2716x128) ![0, 0] S160x128.size inb_S2716x128_S160x128_0_0) (k0_pay18 (k0_pay4 (wholeX x3))) x13 q =
        k0_pay18 (k0_pay4 (wholeX x3)) p := by
    intro q p h0 h1
    have hq : q = Rect.emb (Rect.unit (s := S2716x128) ![0, 0] S160x128.size inb_S2716x128_S160x128_0_0) p := by
      funext a
      apply Fin.ext
      fin_cases a
      · show (q 0).val = 0 + 1 * (p 0).val
        omega
      · show (q 1).val = 0 + 1 * (p 1).val
        omega
    rw [hq, put_emb]
  generalize hR0 : (k0_pay18 (k0_pay4 (wholeX x3)) : S160x128.Idx → Elt F .f32) = R at hR ⊢
  generalize hS0 : scales x2 x3 x14 = S
  generalize hX13 : put (Rect.unit (s := S2716x128) ![0, 0] S160x128.size inb_S2716x128_S160x128_0_0) R x13 = Y13 at hR ⊢
  generalize hX8 : put (Rect.unit (s := S160x128) ![0, 0] S160x128.size inb_S160x128_S160x128_0_0) (xCodes (wholeX x3)) x8 = Y8
  generalize hX9 : put (segment i) (xScale (wholeX x3)) x9 = Y9
  refine Runs.mono (Q := fun _ y => ∃ x12' x13' x7', Slotted (gram x10' x11') 1152 x12' ∧ Multiplied S x12' R 71 x13' ∧ Crossed S x12' 71 x7' ∧
    y = ⟨x1, x2, x3, x4, put (Rect.unit (s := S2716x128) ![0, 0] S2716x128.size inb_S2716x128_S2716x128_0_0) (zCodes (wholeZ x13')) x5, put (segment i) (zScale (wholeZ x13')) x6, x7', Y8, Y9, x10', x11', x12', x13', S⟩) ?_ ?_
  · clear hS0 hX13 hX8 hX9 hR0 x14 x13 x8 x9 hx10 hx11
    rename' Y13 => x13, S => x14, Y8 => x8, Y9 => x9, x10' => x10, x11' => x11, x12' => x12
    show Runs _ _ _ _ (_ >>= _) _ _
    refine Runs.bind ?_
    show Runs _ _ _ _ (_ >>= _) _ _
    repeat' first
      | with_reducible refine Step.load12 ?_
      | with_reducible refine Step.load10 ?_
      | with_reducible refine Step.load11 ?_
      | (with_reducible refine Step.slot (G := gram x10 x11) hx12 ?h0 ?h1 ?h2 ?hw ?_
         case h0 => rfl
         case h1 => rfl
         case h2 => rfl
         case hw => exact ⟨_, _, rfl⟩
         clear hx12
         intro x12' hx12
         simp only [Nat.reduceAdd] at hx12
         try clear x12
         rename' x12' => x12)
      | (with_reducible refine Runs.bind ?_
         show Runs _ _ _ _ (_ >>= _) _ _)
      | (with_reducible refine Runs.ret ?_
         show Runs _ _ _ _ (_ >>= _) _ _)
      | with_reducible refine Step.tail ?_
    have hx13 : Multiplied x14 x12 R 0 x13 := ⟨hR, fun k' hk' => absurd hk' (Nat.not_lt_zero _)⟩
    have hx7 := Crossed.zero x14 x12 x7
    clear hR
    repeat' first
      | with_reducible refine Step.load12 ?_
      | with_reducible refine Step.load14 ?_
      | with_reducible refine Step.load13 ?_
      | with_reducible refine Step.load7 ?_
      | (with_reducible refine Step.prod (R := R) hx13 ?h0 ?h1 ?h2 ?hw ?_
         case h0 => decide
         case h1 => rfl
         case h2 => rfl
         case hw =>
           first
             | exact ⟨_, ⟨_, _, _, _, _, _, rfl⟩, _, rfl⟩
             | exact ⟨_, IsStored.one ⟨_, _, _, _, _, rfl⟩, _, rfl⟩
         clear hx13
         intro x13' hx13
         simp only [Nat.reduceAdd] at hx13
         try clear x13
         rename' x13' => x13)
      | (with_reducible refine Step.cross hx7 ?h0 ?h1 ?hw ?_
         case h0 => decide
         case h1 => rfl
         case hw =>
           first
             | exact ⟨_, ⟨_, _, _, _, _, _, rfl⟩, _, rfl⟩
             | exact ⟨_, IsStored.one ⟨_, _, _, _, _, rfl⟩, slice_one _⟩
         clear hx7
         intro x7' hx7
         simp only [Nat.reduceAdd] at hx7
         try clear x7
         rename' x7' => x7)
      | (with_reducible refine Runs.bind ?_
         show Runs _ _ _ _ (_ >>= _) _ _)
      | (with_reducible refine Runs.ret ?_
         show Runs _ _ _ _ (_ >>= _) _ _)
      | with_reducible refine Step.tail ?_
    rw [k0_part202_eq_skeleton]
    refine Runs.bind ?_
    refine Runs.ret ?_
    show Runs _ _ _ _ (_ >>= _) _ _
    rw [k0_part203_eq_skeleton]
    refine Runs.bind ?_
    refine Runs.ret ?_
    show Runs _ _ _ _ (_ >>= _) _ _
    refine Step.load6 ?_
    refine Step.store6 ?_
    refine Step.load5 ?_
    refine Step.store5 ?_
    exact Runs.ret ⟨_, _, _, hx12, hx13, hx7, rfl⟩
  · rintro _ _ ⟨x12'', x13', x7', h12, h13, h7, rfl⟩
    subst hR0 hS0
    exact ⟨_, _, _, _, _, hx10, hx11, h12, h13, h7, by rw [← hX8, ← hX9]⟩

end Cert.Kernel.Run
-- ==== Proof.HandKernel.lean ====
/-
  The pipeline around the body: what every point may find and leave in the windows, and the run of the whole
  program from any memory.
-/
module

public import proofs.«01_k».proof.Proof.RunKernel
public import proofs.«01_k».proof.Proof.Gen.Kernel.Frame

@[expose] public section

set_option maxRecDepth 16384

noncomputable section

namespace Cert.Kernel.Run

open Cert.Proof Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The contents whose four inputs are the blocks of point `t`. -/
def Found (c : Dev nD) (t : Fin cfg0.N) (x : St (Elt F)) : Prop :=
  (∃ d, x.c1 = (cfg0.win 0).fill (cfg0.grid.coords t) d (iblk m c 0 t)) ∧
  (∃ d, x.c2 = (cfg0.win 1).fill (cfg0.grid.coords t) d (iblk m c 1 t)) ∧
  (∃ d, x.c3 = (cfg0.win 2).fill (cfg0.grid.coords t) d (iblk m c 2 t)) ∧
  (∃ d, x.c4 = (cfg0.win 3).fill (cfg0.grid.coords t) d (iblk m c 3 t))

/-- What the body leaves in a window of what it found there. -/
def leaves (c : Dev nD) : (w : Fin cfg0.W) → (t : Fin cfg0.N) → (Y X : (cfg0.win w).block.Idx → Elt F (cfg0.win w).elt) → Prop
  | 0, t => fun Y X => X = Y
  | 1, t => fun Y X => X = Y
  | 2, t => fun Y X => X = Y
  | 3, t => fun Y X => X = Y
  | 4, t => fun Y X => ∃ x y : St (Elt F), Found m c t x ∧ Run.After (grid0.coords t) x y ∧ x.c5 = Y ∧ y.c5 = X
  | 5, t => fun Y X => ∃ x y : St (Elt F), Found m c t x ∧ Run.After (grid0.coords t) x y ∧ x.c6 = Y ∧ y.c6 = X
  | 6, t => fun Y X => ∃ x y : St (Elt F), Found m c t x ∧ Run.After (grid0.coords t) x y ∧ x.c7 = Y ∧ y.c7 = X
  | 7, t => fun Y X => ∃ x y : St (Elt F), Found m c t x ∧ Run.After (grid0.coords t) x y ∧ x.c8 = Y ∧ y.c8 = X
  | 8, t => fun Y X => ∃ x y : St (Elt F), Found m c t x ∧ Run.After (grid0.coords t) x y ∧ x.c9 = Y ∧ y.c9 = X

/-- The data of the pipeline. -/
def rdat (c : Dev nD) : RDat τ (Elt F) Unit ℕ (UR sig nD τ) ℕ cfg0 c where
  A w := V m c (Pipeline.arrRef spec0 w)
  after := leaves m c
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := by
  intro t Y hY
  rw [bigSep_W0, bigSep_W0, defs₀_row]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  have h0 := ((rdat m c).finds_of_fetch (fetch0_0 t) (Y 0)).mp (hY 0)
  have h1 := ((rdat m c).finds_of_fetch (fetch0_1 t) (Y 1)).mp (hY 1)
  have h2 := ((rdat m c).finds_of_fetch (fetch0_2 t) (Y 2)).mp (hY 2)
  have h3 := ((rdat m c).finds_of_fetch (fetch0_3 t) (Y 3)).mp (hY 3)
  iintro ⟨⟨⟨⟨%f0, HS0⟩, ⟨%f1, HS1⟩, ⟨%f2, HS2⟩, ⟨%f3, HS3⟩, ⟨%f4, HS4⟩⟩, Hg⟩, HO, HY0, HY1, HY2, HY3, HY4, HY5, HY6, HY7, HY8⟩
  iapply (wp_wand frame (wpE (defs₀ (F := F)) Variants.none (c : Thread nD τ) none) Set.univ (Q := fun _ => iprop(∃ y, ⌜Run.After (grid0.coords t) ⟨Y 0, Y 1, Y 2, Y 3, Y 4, Y 5, Y 6, Y 7, Y 8, f0, f1, f2, f3, f4⟩ y⌝ ∗ Own c ⟨st0_0 t, st0_1 t, st0_2 t, st0_3 t, st0_4 t, st0_5 t, st0_6 t, st0_7 t, st0_8 t, Memref.whole cc0_scratch0, Memref.whole cc0_scratch1, Memref.whole cc0_scratch2, Memref.whole cc0_scratch3, Memref.whole cc0_scratch4⟩ y))) $$ [HY0 HY1 HY2 HY3 HY4 HY5 HY6 HY7 HY8 HS0 HS1 HS2 HS3 HS4]
  · have hr := run_body (F := F) (defs₀ (F := F)) Variants.none c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
      (Y 0) (Y 1) (Y 2) (Y 3) (Y 4) (Y 5) (Y 6) (Y 7) (Y 8) f0 f1 f2 f3 f4
    iapply (hr (fun _ => iprop(∃ y, ⌜Run.After (grid0.coords t) ⟨Y 0, Y 1, Y 2, Y 3, Y 4, Y 5, Y 6, Y 7, Y 8, f0, f1, f2, f3, f4⟩ y⌝ ∗ Own c ⟨st0_0 t, st0_1 t, st0_2 t, st0_3 t, st0_4 t, st0_5 t, st0_6 t, st0_7 t, st0_8 t, Memref.whole cc0_scratch0, Memref.whole cc0_scratch1, Memref.whole cc0_scratch2, Memref.whole cc0_scratch3, Memref.whole cc0_scratch4⟩ y)) (fun _ y hy => by
      iintro H
      iexists y
      isplitr; · ipureintro; exact hy
      iexact H))
    unfold Own
    dsimp only
    isplitl [HY0]; · iexact HY0
    isplitl [HY1]; · iexact HY1
    isplitl [HY2]; · iexact HY2
    isplitl [HY3]; · iexact HY3
    isplitl [HY4]; · iexact HY4
    isplitl [HY5]; · iexact HY5
    isplitl [HY6]; · iexact HY6
    isplitl [HY7]; · iexact HY7
    isplitl [HY8]; · iexact HY8
    isplitl [HS0]; · rw [owns_whole]; iexact HS0
    isplitl [HS1]; · rw [owns_whole]; iexact HS1
    isplitl [HS2]; · rw [owns_whole]; iexact HS2
    isplitl [HS3]; · rw [owns_whole]; iexact HS3
    rw [owns_whole]; iexact HS4
  iintro %v ⟨%y, %hy, H⟩
  unfold Own
  icases H with ⟨HY0, HY1, HY2, HY3, HY4, HY5, HY6, HY7, HY8, HS0, HS1, HS2, HS3, HS4⟩
  have hf : Found m c t ⟨Y 0, Y 1, Y 2, Y 3, Y 4, Y 5, Y 6, Y 7, Y 8, f0, f1, f2, f3, f4⟩ := ⟨h0, h1, h2, h3⟩
  have hin := hy
  obtain ⟨w10, w11, w12, w13, w7, -, -, -, -, -, he⟩ := hin
  isplitl [HS0 HS1 HS2 HS3 HS4 Hg]
  · isplitl [HS0 HS1 HS2 HS3 HS4]
    · isplitl [HS0]; · iexists _; rw [← owns_whole]; iexact HS0
      isplitl [HS1]; · iexists _; rw [← owns_whole]; iexact HS1
      isplitl [HS2]; · iexists _; rw [← owns_whole]; iexact HS2
      isplitl [HS3]; · iexists _; rw [← owns_whole]; iexact HS3
      iexists _; rw [← owns_whole]; iexact HS4
    iexact Hg
  isplitl [HO]; · iexact HO
  isplitl [HY0]
  · iexists _; isplitr; swap; · iexact HY0
    ipureintro; rw [he]; rfl
  isplitl [HY1]
  · iexists _; isplitr; swap; · iexact HY1
    ipureintro; rw [he]; rfl
  isplitl [HY2]
  · iexists _; isplitr; swap; · iexact HY2
    ipureintro; rw [he]; rfl
  isplitl [HY3]
  · iexists _; isplitr; swap; · iexact HY3
    ipureintro; rw [he]; rfl
  isplitl [HY4]
  · iexists _; isplitr; swap; · iexact HY4
    ipureintro; exact ⟨_, _, hf, hy, rfl, rfl⟩
  isplitl [HY5]
  · iexists _; isplitr; swap; · iexact HY5
    ipureintro; exact ⟨_, _, hf, hy, rfl, rfl⟩
  isplitl [HY6]
  · iexists _; isplitr; swap; · iexact HY6
    ipureintro; exact ⟨_, _, hf, hy, rfl, rfl⟩
  isplitl [HY7]
  · iexists _; isplitr; swap; · iexact HY7
    ipureintro; exact ⟨_, _, hf, hy, rfl, rfl⟩
  iexists _; isplitr; swap; · iexact HY8
  ipureintro; exact ⟨_, _, hf, hy, rfl, rfl⟩

set_option backward.isDefEq.respectTransparency.types false in
/-- The run of the program: every final state holds what the windows may hold, and every counter is at zero. -/
theorem run_main :
    θ_run defs (onTc (τ := τ) (main (F := F))) (s₀ m ρ)
      (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl) (hΦ := fun _ _ => rfl)
    (hQ' := fun _ h => h)

variable {m} in
/-- The arguments are as launched. -/
theorem args_kept {r : PUnit × MemSt nD τ sig (Elt F)} (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.Kernel.Run

end
-- ==== Proof.Scale.lean ====
/-
  The power-of-two scale of a row, over the extended reals: the scale the kernel finds by searching the exponent
  field of `t` bit by bit is the scale the reference computes as a logarithm rounded down.
-/
module

public import Idealize.ShloMosaic.PureOps.Ideal.Laws

@[expose] public section

set_option maxRecDepth 16384

noncomputable section

namespace Cert.Scale

open Idealize.ShloMosaic

/-! ## The kernel's scale, of one number -/

/-- The number whose exponent field is the word `n`. -/
def power (n : BitVec 32) : EReal := Ideal.ofBits .f32 (IntOp.shli .vector n 23#32)

/-- One step of the search: the bit `b` enters the field if `t` reaches the number it makes. -/
def step (t : EReal) (b n : BitVec 32) : BitVec 32 :=
  Scalar.select (Ideal.cmp .oge t (power (IntOp.addi n b))) (IntOp.addi n b) n

/-- The exponent field of `t`. -/
def field (t : EReal) : BitVec 32 :=
  step t 1#32 (step t 2#32 (step t 4#32 (step t 8#32 (step t 16#32 (step t 32#32 (step t 64#32 (step t 128#32 0#32)))))))

/-- The kernel's exponent from the field `n` found for `t`. -/
def exponent (t : EReal) (n : BitVec 32) : BitVec 32 :=
  Scalar.select (IntOp.ori (Ideal.cmp .oeq t (Ideal.ofBits .f32 0x00000000#32))
      (IntOp.cmpi .sgt (IntOp.subi (Scalar.select (Ideal.cmp .oeq t t) n 255#32) 126#32) 127#32))
    0#32 (IntOp.subi (Scalar.select (Ideal.cmp .oeq t t) n 255#32) 126#32)

/-- The kernel's scale and its inverse. -/
def scaleOf (t : EReal) : EReal := power (IntOp.addi 127#32 (exponent t (field t)))
def inverseOf (t : EReal) : EReal := power (IntOp.subi 127#32 (exponent t (field t)))

/-! ## The reference's scale, of one number -/

/-- The factor from a greatest magnitude to the number whose exponent is taken. -/
def factor : EReal := Ideal.ofBits .f32 0x3B124925#32

/-- The exponent before the corners. -/
def rounded (a : EReal) : EReal :=
  max (Ideal.liftRound Int.floor (Ideal.div (Ideal.log (a * factor)) (Ideal.log (Ideal.ofBits .f32 0x40000000#32)))
      + Ideal.ofBits .f32 0x3F800000#32) (Ideal.ofBits .f32 0xC2FC0000#32)

/-- The reference's exponent, scale and inverse. -/
def exponentR (a : EReal) : EReal :=
  Scalar.select (IntOp.ori (Ideal.cmp .oeq a (Ideal.ofBits .f32 0x00000000#32))
    (Ideal.cmp .ogt (rounded a) (Ideal.ofBits .f32 0x42FE0000#32))) (Ideal.ofBits .f32 0x00000000#32) (rounded a)
def scaleR (a : EReal) : EReal := Ideal.exp2 (exponentR a)
def inverseR (a : EReal) : EReal :=
  Scalar.select (Ideal.cmp .ogt (exponentR a) (Ideal.ofBits .f32 0x42FC0000#32)) (Ideal.ofBits .f32 0x00000000#32)
    (Ideal.exp2 (Ideal.ofBits .f32 0x00000000#32 - exponentR a))

/-! ## Constants -/

theorem zero_eq : Ideal.ofBits .f32 0x00000000#32 = 0 := by simp [Ideal.ofBits, Ideal.ieee]
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem n126_eq : Ideal.ofBits .f32 0xC2FC0000#32 = ((-126 : ℝ) : EReal) := by
  simp [Ideal.ofBits, Ideal.ieee, -EReal.coe_mul]; norm_num
theorem p126_eq : Ideal.ofBits .f32 0x42FC0000#32 = ((126 : ℝ) : EReal) := by
  simp [Ideal.ofBits, Ideal.ieee, -EReal.coe_mul]; norm_num
theorem p127_eq : Ideal.ofBits .f32 0x42FE0000#32 = ((127 : ℝ) : EReal) := by
  simp [Ideal.ofBits, Ideal.ieee, -EReal.coe_mul]; norm_num
theorem factor_pos : ∃ c : ℝ, 0 < c ∧ factor = (c : EReal) := by
  refine ⟨_, ?_, by unfold factor Ideal.ofBits Ideal.ieee; simp [-EReal.coe_mul]; rfl⟩
  positivity

/-! ## The powers -/

theorem shl_parts : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

theorem power_top : power (BitVec.ofNat 32 255) = ⊤ := by
  obtain ⟨h1, h2, h3⟩ := shl_parts 255
  have h2' : ((IntOp.shli .vector (BitVec.ofNat 32 255) 23#32).extractLsb' 23 8).toNat = 255 := h2
  have h3' : ((IntOp.shli .vector (BitVec.ofNat 32 255) 23#32).extractLsb' 0 23).toNat = 0 := h3
  have h1' : ((IntOp.shli .vector (BitVec.ofNat 32 255) 23#32).extractLsb' 31 1 == 1#1) = false := h1
  unfold power Ideal.ofBits Ideal.ieee
  simp only [h1', h2', h3']
  norm_num

theorem power_zero : power (BitVec.ofNat 32 0) = 0 := by
  have h : IntOp.shli .vector (BitVec.ofNat 32 0) 23#32 = 0#32 := by decide
  unfold power; rw [h]; exact zero_eq

theorem power_mid (n : Nat) (h0 : 0 < n) (h1 : n < 255) : power (BitVec.ofNat 32 n) = (((2 : ℝ) ^ ((n : ℤ) - 127) : ℝ) : EReal) := by
  obtain ⟨e1, e2, e3⟩ := shl_parts ⟨n, by omega⟩
  unfold power Ideal.ofBits Ideal.ieee
  simp only [e1, e2, e3]
  rw [if_neg (by norm_num; omega), if_neg (by omega)]
  rw [EReal.coe_eq_coe_iff]
  have e : ((n : ℤ) - (2 ^ (8 - 1) - 1) - ((23 : ℕ) : ℤ)) = ((n : ℤ) - 127) - 23 := by norm_num
  rw [e, zpow_sub₀ (by norm_num) _ 23]
  norm_num
  field_simp

/-! ## The search -/

/-- What the search keeps: the field reached is `n`, `t` is at least its number, and less than the number `w` further. -/
def Between (t : EReal) (n w : Nat) : Prop :=
  n + w ≤ 256 ∧ power (BitVec.ofNat 32 n) ≤ t ∧ (n + w = 256 ∨ t < power (BitVec.ofNat 32 (n + w)))

theorem step_between (t : EReal) (n b : Nat) (h : Between t n (2 * b)) :
    ∃ n', step t (BitVec.ofNat 32 b) (BitVec.ofNat 32 n) = BitVec.ofNat 32 n' ∧ Between t n' b := by
  obtain ⟨h1, h2, h3⟩ := h
  have e : IntOp.addi (BitVec.ofNat 32 n) (BitVec.ofNat 32 b) = BitVec.ofNat 32 (n + b) := (BitVec.ofNat_add n b).symm
  unfold step
  rw [e]
  by_cases hc : power (BitVec.ofNat 32 (n + b)) ≤ t
  · refine ⟨n + b, by simp [Ideal.cmp, Scalar.select, hc], by omega, hc, ?_⟩
    rcases h3 with h3 | h3
    · left; omega
    · right; rw [show n + b + b = n + 2 * b by omega]; exact h3
  · refine ⟨n, by simp [Ideal.cmp, Scalar.select, hc], by omega, h2, .inr (not_le.mp hc)⟩

theorem field_between (t : EReal) (ht : 0 ≤ t) : ∃ n, field t = BitVec.ofNat 32 n ∧ Between t n 1 := by
  have h0 : Between t 0 (2 * 128) := ⟨by omega, by rw [power_zero]; exact ht, .inl rfl⟩
  obtain ⟨n1, e1, h1⟩ := step_between t 0 128 h0
  obtain ⟨n2, e2, h2⟩ := step_between t n1 64 h1
  obtain ⟨n3, e3, h3⟩ := step_between t n2 32 h2
  obtain ⟨n4, e4, h4⟩ := step_between t n3 16 h3
  obtain ⟨n5, e5, h5⟩ := step_between t n4 8 h4
  obtain ⟨n6, e6, h6⟩ := step_between t n5 4 h5
  obtain ⟨n7, e7, h7⟩ := step_between t n6 2 h6
  obtain ⟨n8, e8, h8⟩ := step_between t n7 1 h7
  exact ⟨n8, by unfold field; rw [e1, e2, e3, e4, e5, e6, e7, e8], h8⟩

/-! ## The two scales agree -/

theorem sgt_eq : ∀ n : Fin 256, IntOp.cmpi .sgt (IntOp.subi (BitVec.ofNat 32 n.val) 126#32) 127#32 = BitVec.ofBool (decide (254 ≤ n.val)) := by
  decide +kernel
theorem add_eq : ∀ n : Fin 254, IntOp.addi 127#32 (IntOp.subi (BitVec.ofNat 32 n.val) 126#32) = BitVec.ofNat 32 (n.val + 1) := by
  decide +kernel
theorem sub_eq : ∀ n : Fin 254, IntOp.subi 127#32 (IntOp.subi (BitVec.ofNat 32 n.val) 126#32) = BitVec.ofNat 32 (253 - n.val) := by
  decide +kernel

theorem exponent_zero (n : BitVec 32) : exponent 0 n = 0#32 := by
  unfold exponent
  rw [zero_eq]
  have h : Ideal.cmp .oeq 0 0 = 1#1 := by simp [Ideal.cmp]
  rw [h]
  have h2 : ∀ x : BitVec 1, IntOp.ori 1#1 x = 1#1 := by decide
  rw [h2]; rfl

theorem exponent_pos (t : EReal) (ht : t ≠ 0) (n : Fin 256) :
    exponent t (BitVec.ofNat 32 n.val) = if 254 ≤ n.val then 0#32 else IntOp.subi (BitVec.ofNat 32 n.val) 126#32 := by
  unfold exponent
  rw [zero_eq]
  have h : Ideal.cmp .oeq t 0 = 0#1 := by simp [Ideal.cmp, ht]
  have h1 : Ideal.cmp .oeq t t = 1#1 := by simp [Ideal.cmp]
  rw [h, h1]
  have h2 : ∀ x : BitVec 1, IntOp.ori 0#1 x = x := by decide
  have h3 : ∀ x y : BitVec 32, Scalar.select 1#1 x y = x := fun _ _ => rfl
  rw [h2, h3, sgt_eq]
  by_cases hn : 254 ≤ n.val <;> simp [hn, Scalar.select]

theorem power_one : power (IntOp.addi 127#32 0#32) = 1 := by
  rw [show IntOp.addi 127#32 0#32 = BitVec.ofNat 32 127 from by decide, power_mid 127 (by omega) (by omega)]
  norm_num
theorem power_one' : power (IntOp.subi 127#32 0#32) = 1 := by
  rw [show IntOp.subi 127#32 0#32 = BitVec.ofNat 32 127 from by decide, power_mid 127 (by omega) (by omega)]
  norm_num

/-- The logarithm in base two. -/
theorem log2_bounds (r : ℝ) (hr : 0 < r) (k : ℤ) :
    ((k : ℝ) ≤ Real.log r / Real.log 2 ↔ (2 : ℝ) ^ k ≤ r) := by
  have h2 : 0 < Real.log 2 := Real.log_pos (by norm_num)
  rw [le_div_iff₀ h2, ← Real.log_zpow, Real.log_le_log_iff (by positivity) hr]

theorem rounded_coe (a : EReal) (r : ℝ) (hr : 0 < r) (h : a * factor = (r : EReal)) :
    rounded a = (((max (⌊Real.log r / Real.log 2⌋ + 1) (-126) : ℤ) : ℝ) : EReal) := by
  have h2 : 0 < Real.log 2 := Real.log_pos (by norm_num)
  unfold rounded
  rw [h, one_eq, two_eq, n126_eq, Ideal.log_coe, Ideal.log_coe, if_neg (by linarith), if_neg (by norm_num),
    Ideal.div_coe h2.ne', ← EReal.coe_mul, Ideal.liftRound_coe, ← EReal.coe_add, mul_one_div]
  push_cast
  rfl

theorem exp2_int (k : ℤ) : Ideal.exp2 ((k : ℝ) : EReal) = (((2 : ℝ) ^ k : ℝ) : EReal) := by
  rw [Ideal.exp2_coe]; congr 1; exact Real.rpow_intCast 2 k

theorem select_true {α : Type} (x y : α) : Scalar.select 1#1 x y = x := rfl
theorem select_false {α : Type} (x y : α) : Scalar.select 0#1 x y = y := rfl
theorem gt_true {x y : EReal} (h : y < x) : Ideal.cmp .ogt x y = 1#1 := by simp [Ideal.cmp, h]
theorem gt_false {x y : EReal} (h : ¬ y < x) : Ideal.cmp .ogt x y = 0#1 := by simp only [Ideal.cmp, h]; rfl
theorem ori_zero (x : BitVec 1) : IntOp.ori 0#1 x = x := by revert x; decide

/-- The reference's exponent where its corners answer nought. -/
theorem corner (a : EReal) (h : exponentR a = 0) : scaleR a = 1 ∧ inverseR a = 1 := by
  unfold scaleR inverseR
  have h0 : Ideal.exp2 0 = 1 := by
    have := exp2_int 0
    simpa using this
  rw [h, zero_eq, p126_eq]
  rw [gt_false (by simp)]
  simp [select_false, h0]

theorem exponentR_big (a : EReal) (ha : a ≠ 0) (h : ((127 : ℝ) : EReal) < rounded a) : exponentR a = 0 := by
  unfold exponentR
  rw [zero_eq, p127_eq, gt_true h, show Ideal.cmp .oeq a 0 = 0#1 by simp [Ideal.cmp, ha], ori_zero, select_true]

theorem exponentR_small (a : EReal) (ha : a ≠ 0) (h : ¬ ((127 : ℝ) : EReal) < rounded a) : exponentR a = rounded a := by
  unfold exponentR
  rw [zero_eq, p127_eq, gt_false h, show Ideal.cmp .oeq a 0 = 0#1 by simp [Ideal.cmp, ha], ori_zero, select_false]

theorem agree (a : EReal) (ha : 0 ≤ a) : scaleOf (a * factor) = scaleR a ∧ inverseOf (a * factor) = inverseR a := by
  obtain ⟨c, hc, hcf⟩ := factor_pos
  have ht : 0 ≤ a * factor := by rw [hcf]; exact EReal.mul_nonneg ha (by exact_mod_cast hc.le)
  obtain ⟨n, hn, hb1, hb2, hb3⟩ := field_between _ ht
  have hn256 : n < 256 := by omega
  have hex := fun h => exponent_pos (a * factor) h ⟨n, hn256⟩
  unfold scaleOf inverseOf
  rw [hn]
  by_cases h0 : a = 0
  · subst h0
    rw [zero_mul, exponent_zero, power_one, power_one']
    have := corner 0 (by unfold exponentR; rw [zero_eq, show Ideal.cmp .oeq 0 0 = 1#1 by simp [Ideal.cmp]];
                         rw [show ∀ x : BitVec 1, IntOp.ori 1#1 x = 1#1 by decide]; rfl)
    exact ⟨this.1.symm, this.2.symm⟩
  have hpos : 0 < a := lt_of_le_of_ne ha (Ne.symm h0)
  by_cases htop : a = ⊤
  · have e : a * factor = ⊤ := by rw [htop, hcf]; exact EReal.top_mul_coe_of_pos hc
    have hn255 : n = 255 := by
      rcases Nat.lt_or_ge n 255 with h | h
      · exfalso
        rcases hb3 with h' | h'
        · omega
        · rw [e] at h'; exact not_top_lt h'
      · omega
    rw [hex (by rw [e]; simp)]
    have hr : exponentR a = 0 := by
      refine exponentR_big a h0 ?_
      unfold rounded
      rw [e, one_eq, two_eq, n126_eq, Ideal.log_top, Ideal.log_coe, if_neg (by norm_num)]
      have h2 : 0 < Real.log 2 := Real.log_pos (by norm_num)
      rw [Ideal.div_coe h2.ne', EReal.top_mul_coe_of_pos (by positivity), Ideal.liftRound_top]
      rw [EReal.top_add_coe]
      exact lt_of_lt_of_le (EReal.coe_lt_top _) (le_max_left _ _)
    rw [if_pos (by show 254 ≤ n; omega), power_one, power_one']
    exact ⟨(corner a hr).1.symm, (corner a hr).2.symm⟩
  -- a positive real
  obtain ⟨x, rfl⟩ : ∃ x : ℝ, a = (x : EReal) := ⟨a.toReal, (EReal.coe_toReal htop (by rintro rfl; simp at ha)).symm⟩
  have hx : 0 < x := by exact_mod_cast hpos
  set r := x * c with hrdef
  have hr : 0 < r := mul_pos hx hc
  have e : (x : EReal) * factor = (r : EReal) := by rw [hcf, ← EReal.coe_mul]
  rw [e] at hb2 hb3 hex ⊢
  have hrd := rounded_coe (x : EReal) r hr e
  rw [hex (by exact_mod_cast hr.ne')]
  have hfl : ∀ k : ℤ, k ≤ ⌊Real.log r / Real.log 2⌋ ↔ (2 : ℝ) ^ k ≤ r := fun k => by
    rw [Int.le_floor]; exact log2_bounds r hr k
  have hn255 : n < 255 := by
    rcases Nat.lt_or_ge n 255 with h | h
    · exact h
    · exfalso
      rw [show n = 255 by omega, power_top] at hb2
      exact absurd (top_le_iff.mp hb2) (EReal.coe_ne_top r)
  by_cases hbig : n = 254
  · rw [if_pos (by show 254 ≤ n; omega), power_one, power_one']
    have h127 : (2 : ℝ) ^ (127 : ℤ) ≤ r := by
      rw [hbig, power_mid 254 (by omega) (by omega)] at hb2
      have h := EReal.coe_le_coe_iff.mp hb2
      rw [show ((254 : ℕ) : ℤ) - 127 = 127 by omega] at h
      exact h
    have hr0 : exponentR (x : EReal) = 0 := by
      refine exponentR_big _ h0 ?_
      rw [hrd]
      have := (hfl 127).mpr h127
      have h3 : (127 : ℤ) < max (⌊Real.log r / Real.log 2⌋ + 1) (-126) := by omega
      have h4 : ((127 : ℤ) : ℝ) < ((max (⌊Real.log r / Real.log 2⌋ + 1) (-126) : ℤ) : ℝ) := Int.cast_lt.mpr h3
      exact EReal.coe_lt_coe_iff.mpr (by exact_mod_cast h4)
    exact ⟨(corner _ hr0).1.symm, (corner _ hr0).2.symm⟩
  have hn254 : n < 254 := by omega
  rw [if_neg (by show ¬ 254 ≤ n; omega)]
  rw [add_eq ⟨n, hn254⟩, sub_eq ⟨n, hn254⟩]
  -- the exponent
  have hupper : r < (2 : ℝ) ^ ((n : ℤ) - 126) := by
    rcases hb3 with h | h
    · omega
    · rw [power_mid (n + 1) (by omega) (by omega)] at h
      have h' := EReal.coe_lt_coe_iff.mp h
      rw [show (((n + 1 : ℕ) : ℤ) - 127) = (n : ℤ) - 126 by omega] at h'
      exact h'
  have hup : ¬ ((n : ℤ) - 126 ≤ ⌊Real.log r / Real.log 2⌋) := fun h => absurd ((hfl _).mp h) (not_le.mpr hupper)
  have hval : max (⌊Real.log r / Real.log 2⌋ + 1) (-126) = (n : ℤ) - 126 := by
    by_cases hz : n = 0
    · omega
    · have hlow : (2 : ℝ) ^ ((n : ℤ) - 127) ≤ r := by
        rw [power_mid n (by omega) (by omega)] at hb2
        exact EReal.coe_le_coe_iff.mp hb2
      have := (hfl _).mpr hlow
      omega
  rw [hval] at hrd
  have hexp : exponentR (x : EReal) = ((((n : ℤ) - 126 : ℤ) : ℝ) : EReal) := by
    rw [exponentR_small _ h0, hrd]
    rw [hrd, EReal.coe_lt_coe_iff, not_lt]
    have : (n : ℤ) - 126 ≤ 127 := by omega
    exact_mod_cast this
  constructor
  · unfold scaleR
    rw [hexp, exp2_int, power_mid (n + 1) (by omega) (by omega)]
    congr 2
    push_cast
    omega
  · unfold inverseR
    rw [hexp, p126_eq, zero_eq]
    by_cases h253 : n = 253
    · have hlt : ((126 : ℝ) : EReal) < ((((n : ℤ) - 126 : ℤ) : ℝ) : EReal) := by
        rw [EReal.coe_lt_coe_iff]
        have : (126 : ℤ) < (n : ℤ) - 126 := by omega
        exact_mod_cast this
      rw [gt_true hlt, select_true]
      show power (BitVec.ofNat 32 (253 - n)) = 0
      rw [h253]; exact power_zero
    · have hlt : ¬ ((126 : ℝ) : EReal) < ((((n : ℤ) - 126 : ℤ) : ℝ) : EReal) := by
        rw [EReal.coe_lt_coe_iff, not_lt]
        have : (n : ℤ) - 126 ≤ 126 := by omega
        exact_mod_cast this
      rw [gt_false hlt, select_false]
      have hz : (0 : EReal) - ((((n : ℤ) - 126 : ℤ) : ℝ) : EReal) = (((126 - (n : ℤ) : ℤ) : ℝ) : EReal) := by
        rw [zero_sub, ← EReal.coe_neg]
        congr 1
        push_cast
        rw [neg_sub]
      rw [hz, exp2_int]
      show power (BitVec.ofNat 32 (253 - n)) = _
      rw [power_mid (253 - n) (by omega) (by omega)]
      congr 2
      omega

/-! ## A row -/

/-- The greatest magnitude of a row. -/
def rowMax {n : Nat} (x : Fin n → EReal) : EReal :=
  (Finset.univ : Finset (Fin n)).fold max (Ideal.ofBits .f32 0xFF800000#32) fun k => max (x k) (-x k)

theorem rowMax_nonneg {n : Nat} (x : Fin n → EReal) (k : Fin n) : 0 ≤ rowMax x := by
  unfold rowMax
  rw [Finset.le_fold_max]
  right
  refine ⟨k, Finset.mem_univ _, ?_⟩
  rcases le_total 0 (x k) with h | h
  · exact le_max_of_le_left h
  · exact le_max_of_le_right (by rw [EReal.neg_nonneg]; exact h)

/-- The code of `v` at the inverse scale `s`. -/
def code (s v : EReal) : EReal := min (Ideal.ofBits .f32 0x43E00000#32) (max (Ideal.ofBits .f32 0xC3E00000#32) (v * s))

end Cert.Scale

end
-- ==== Proof.Pairs.lean ====
/-
  The mathematics of the problem, element by element: the products of two features of a row, and the row of x and all
  products that is quantised.
-/
module

public import proofs.«01_k».proof.Proof.Scale
public import Idealize.ShloMosaic.Lib.ValueIdxCore

@[expose] public section

set_option backward.isDefEq.respectTransparency.types false

noncomputable section

namespace Cert.Pairs

open Cert.Scale Idealize.ShloMosaic Idealize.ShloMosaic.ValueIdx

variable (a0 : (⟨3, ![1792, 71, 160]⟩ : Shape).Idx → BitVec 8) (a1 : (⟨2, ![1792, 71]⟩ : Shape).Idx → EReal)
  (a2 : (⟨2, ![1792, 160]⟩ : Shape).Idx → EReal) (a3 : (⟨2, ![1792, 160]⟩ : Shape).Idx → BitVec 8)

/-- Channel `k` of feature `f` of row `p`: feature 0 is the dense one, the others the embeddings. -/
def codeOf (p : Fin 1792) : ℕ → Fin 160 → EReal
  | 0, k => Ideal.ofBits .fp8e4m3 (a3 (ix2 p k))
  | f + 1, k => if h : f < 71 then Ideal.ofBits .fp8e4m3 (a0 (ix3 p ⟨f, h⟩ k)) else 0

/-- The scale of feature `f` of row `p`. -/
def scaleAt (p : Fin 1792) : ℕ → EReal
  | 0 => scaleR (rowMax fun k : Fin 160 => a2 (ix2 p k))
  | f + 1 => if h : f < 71 then a1 (ix2 p ⟨f, h⟩) else 0

/-- The product of features `i` and `j` of row `p`. -/
def pairOf (p : Fin 1792) (i j : ℕ) : EReal :=
  (scaleAt a1 a2 p i * scaleAt a1 a2 p j) * ∑ k : Fin 160, codeOf a0 a3 p i k * codeOf a0 a3 p j k

theorem next_start (i : ℕ) : (i + 1) * (i + 1 - 1) / 2 = i * (i - 1) / 2 + i := by
  have h : (i + 1) * (i + 1 - 1) = i * (i - 1) + i * 2 := by
    cases i with
    | zero => rfl
    | succ n => simp only [Nat.add_sub_cancel]; ring
  rw [h, Nat.add_mul_div_right _ _ (by decide)]

/-- Every place below the start of group `i` is in a group before it. -/
theorem place_of (n : ℕ) : ∀ i : ℕ, n < i * (i - 1) / 2 → ∃ e : ℕ × ℕ, e.1 < i ∧ e.2 < e.1 ∧ n = e.1 * (e.1 - 1) / 2 + e.2 := by
  intro i
  induction i with
  | zero => intro h; simp at h
  | succ i ih =>
    intro h
    rw [next_start] at h
    by_cases hn : n < i * (i - 1) / 2
    · obtain ⟨e, h1, h2, h3⟩ := ih hn
      exact ⟨e, by omega, h2, h3⟩
    · exact ⟨(i, n - i * (i - 1) / 2), Nat.lt_succ_self i, by show n - i * (i - 1) / 2 < i; omega,
        by show n = i * (i - 1) / 2 + (n - i * (i - 1) / 2); omega⟩

theorem place_exists (q : Fin 2716) (h : ¬ q.val < 160) :
    ∃ e : ℕ × ℕ, e.1 < 72 ∧ e.2 < e.1 ∧ q.val - 160 = e.1 * (e.1 - 1) / 2 + e.2 :=
  place_of (q.val - 160) 72 (by have := q.isLt; omega)

open Classical in
/-- Row `p` of x, followed by its products. -/
def row (p : Fin 1792) (q : Fin 2716) : EReal :=
  if h : q.val < 160 then a2 (ix2 p ⟨q.val, h⟩)
  else pairOf a0 a1 a2 a3 p (choose (place_exists q h)).1 (choose (place_exists q h)).2

/-- A row holding x and every product in its place is this one. -/
theorem row_unique (p : Fin 1792) (r : Fin 2716 → EReal)
    (hx : ∀ (k : Fin 160) (q : Fin 2716), q.val = k.val → r q = a2 (ix2 p k))
    (hp : ∀ (i j : ℕ) (q : Fin 2716), i < 72 → j < i → q.val = 160 + i * (i - 1) / 2 + j → r q = pairOf a0 a1 a2 a3 p i j) :
    r = row a0 a1 a2 a3 p := by
  funext q
  unfold row
  split
  · next h => exact hx ⟨q.val, h⟩ q rfl
  · next h =>
    obtain ⟨h1, h2, h3⟩ := Classical.choose_spec (place_exists q h)
    exact hp _ _ q h1 h2 (by omega)

/-- The scales of the rows of x and the products. -/
def outScales : (⟨1, ![1792]⟩ : Shape).Idx → EReal := fun j => scaleR (rowMax (row a0 a1 a2 a3 (j 0)))
/-- Their codes, with the two axes exchanged. -/
def outCodes : (⟨2, ![2716, 1792]⟩ : Shape).Idx → EReal :=
  fun j => code (inverseR (rowMax (row a0 a1 a2 a3 (j 1)))) (row a0 a1 a2 a3 (j 1) (j 0))
/-- The products with feature 0, with the two axes exchanged. -/
def inter : (⟨2, ![71, 1792]⟩ : Shape).Idx → EReal := fun j => pairOf a0 a1 a2 a3 (j 1) ((j 0).val + 1) 0

end Cert.Pairs

end
-- ==== Proof.RunIdeal.lean ====
/-
  The body of the kernel, run over its fourteen buffers: what every buffer holds at the end, as a function of what
  the inputs hold at the start.
-/
module

public import proofs.«01_k».proof.Proof.Steps
public import proofs.«01_k».proof.Proof.Gen.KernelIdeal.Skeleton

@[expose] public section

set_option maxRecDepth 16384
set_option maxHeartbeats 0
set_option synthInstance.maxSize 4096

noncomputable section

namespace Cert.KernelIdeal.Run

open Cert.Proof Cert.KernelIdeal.Gen
open Idealize.ShloMosaic Idealize.ShloMosaic.TcCoe Idealize.SL.Sem Idealize.SL

variable {F : FTy → Type} [FloatOps F]

/-- The 24 rows of words matrix `b` is multiplied from. -/
def rowsAt (b : ℕ) : LoadRect S2312x128 :=
  (Rect.unit (s := S2312x128) ![18 * (b % 128), 0] S24x128.size (by
    intro a
    have := Nat.mod_lt b (show 0 < 128 by omega)
    fin_cases a
    · show 18 * (b % 128) + 24 ≤ 2312
      omega
    · show 0 + 128 ≤ 128
      omega)).toLoadRect

/-- Gram matrix `b` of the words `W0` and `W1`. -/
def gram (W0 W1 : S2312x128.Idx → Elt F .i32) (b : ℕ) : FVec F S96x96 .f32 :=
  k0_pay205 (fun j => W0 ((rowsAt b).idx j)) (fun j => W1 ((rowsAt b).idx j))

/-- The bytes of embedding `f`. -/
def embAt (f : ℕ) : LoadRect S71x160x128 :=
  (Rect.unit (s := S71x160x128) ![f % 71, 0, 0] S1x160x128.size (by
    intro a
    have := Nat.mod_lt f (show 0 < 71 by omega)
    fin_cases a
    · show f % 71 + 1 ≤ 71
      omega
    · show 0 + 160 ≤ 160
      omega
    · show 0 + 128 ≤ 128
      omega)).toLoadRect

/-- The code bytes of feature `f`: feature 0 is `x`. -/
def bytes (x1 : S71x160x128.Idx → BitVec 8) (x4 : S160x128.Idx → BitVec 8) : ℕ → IVec S160x128 8
  | 0 => shapeCast S160x128 (fun j => x4 ((Rect.unit (s := S160x128) ![0, 0] S160x128.size inb_S160x128_S160x128_0_0).toLoadRect.idx j))
      shapeCasts_S160x128_S160x128
  | f + 1 => shapeCast S160x128 (fun j => x1 ((embAt f).idx j)) shapeCasts_S1x160x128_S160x128

/-- The words of the four features of group `g`. -/
def wordsOf (x1 : S71x160x128.Idx → BitVec 8) (x4 : S160x128.Idx → BitVec 8) (g : ℕ) : IVec S160x128 32 :=
  packElementwiseInt 8 ![extsi 32 (bytes x1 x4 (4 * g)) natLt_8_32, extsi 32 (bytes x1 x4 (4 * g + 1)) natLt_8_32,
    extsi 32 (bytes x1 x4 (4 * g + 2)) natLt_8_32, extsi 32 (bytes x1 x4 (4 * g + 3)) natLt_8_32]

/-- The words of the first 128 elements, one batch lane a row. -/
def words0 (x1 : S71x160x128.Idx → BitVec 8) (x4 : S160x128.Idx → BitVec 8) (g : ℕ) : IVec S128x128 32 :=
  shapeCast S128x128 (transpose S128x128 [1, 0] (extractStridedSlice S128x128 ![0, 0] (wordsOf x1 x4 g) slices_S160x128_o0_0_S128x128)
    transposes_S128x128_p1_0_S128x128) shapeCasts_S128x128_S128x128

/-- The words of the last 32 elements, followed by zeros. -/
def words1 (x1 : S71x160x128.Idx → BitVec 8) (x4 : S160x128.Idx → BitVec 8) (g : ℕ) : IVec S128x128 32 :=
  shapeCast S128x128 (transpose S128x128 [1, 0] (concatenate S128x128 0
    [⟨S32x128, extractStridedSlice S32x128 ![128, 0] (wordsOf x1 x4 g) slices_S160x128_o128_0_S32x128⟩,
     ⟨S96x128, broadcast S96x128 0#32⟩] concatenates_S32x128_S96x128_S128x128_d0)
    transposes_S128x128_p1_0_S128x128) shapeCasts_S128x128_S128x128

/-- The whole block of `x`. -/
def wholeX (x3 : S160x128.Idx → Elt F .bf16) : Vec F S160x128 .bf16 :=
  fun j => x3 ((Rect.unit (s := S160x128) ![0, 0] S160x128.size inb_S160x128_S160x128_0_0).toLoadRect.idx j)

/-- The exponent field of the scale of `x`. -/
def xField (v : Vec F S160x128 .bf16) : IVec S1x128 32 := k0_pay8 (k0_pay5 v) (k0_pay6 v) (k0_pay7 v)
/-- The codes of `x`. -/
def xCodes (v : Vec F S160x128 .bf16) : FVec F S160x128 .fp8e4m3 :=
  k0_pay13 (k0_pay4 v) (k0_pay5 v) (xField v) (k0_pay9 (k0_pay5 v)) k0_pay10
/-- The scales of `x`. -/
def xScale (v : Vec F S160x128 .bf16) : FVec F S128 .f32 :=
  k0_pay14 (k0_pay5 v) (xField v) (k0_pay9 (k0_pay5 v)) k0_pay10
/-- The scales of `x`, as a row. -/
def xScaleRow (v : Vec F S160x128 .bf16) : FVec F S1x128 .f32 :=
  k0_pay15 (k0_pay5 v) (xField v) (k0_pay9 (k0_pay5 v)) k0_pay10

/-- The rows of scales: those of `x`, then those of the embeddings. -/
def scales (x2 : S71x128.Idx → Elt F .f32) (x3 : S160x128.Idx → Elt F .bf16) (x14 : S72x128.Idx → Elt F .f32) : S72x128.Idx → Elt F .f32 :=
  put (Rect.unit (s := S72x128) ![1, 0] S71x128.size inb_S72x128_S71x128_1_0)
    (k0_pay17 (k0_pay16 fun j => x2 ((Rect.unit (s := S71x128) ![0, 0] S71x128.size inb_S71x128_S71x128_0_0).toLoadRect.idx j)))
    (put (Rect.unit (s := S72x128) ![0, 0] S1x128.size inb_S72x128_S1x128_0_0) (xScaleRow (wholeX x3)) x14)

/-- Where this point's scales go. -/
abbrev segment (i : grid0.Coords) : Rect S1792 := Rect.unit (s := S1792) (k0_off1 i) S128.size (k0_off1_inb i)

/-- The quantiser of `x`, the packing and the first matrices. -/
theorem run_204 (defs : Defs nD τ sig (Elt F) Λ₀) (𝒱 : Variants) (c : Dev nD) (i : grid0.Coords) (arg1 : Memref sig .tc .vmem S71x160x128 .i8) (harg1 : arg1.IsWhole) (arg2 : Memref sig .tc .vmem S71x128 .f32) (harg2 : arg2.IsWhole) (arg3 : Memref sig .tc .vmem S160x128 .bf16) (harg3 : arg3.IsWhole) (arg4 : Memref sig .tc .vmem S160x128 .i8) (harg4 : arg4.IsWhole) (arg5 : Memref sig .tc .vmem S2716x128 .fp8e4m3) (harg5 : arg5.IsWhole) (arg6 : Memref sig .tc .vmem S1792 .f32) (harg6 : arg6.IsWhole) (arg7 : Memref sig .tc .vmem S71x128 .f32) (harg7 : arg7.IsWhole) (arg8 : Memref sig .tc .vmem S160x128 .fp8e4m3) (harg8 : arg8.IsWhole) (arg9 : Memref sig .tc .vmem S1792 .f32) (harg9 : arg9.IsWhole) (arg10 : Memref sig .tc .vmem S2312x128 .i32) (harg10 : arg10.IsWhole) (arg11 : Memref sig .tc .vmem S2312x128 .i32) (harg11 : arg11.IsWhole) (arg12 : Memref sig .tc .vmem S3584x128 .f32) (harg12 : arg12.IsWhole) (arg13 : Memref sig .tc .vmem S2716x128 .f32) (harg13 : arg13.IsWhole) (arg14 : Memref sig .tc .vmem S72x128 .f32) (harg14 : arg14.IsWhole) x1 x2 x3 x4 x5 x6 x7 x8 x9 x10 x11 x12 x13 x14 {β : Type}
    (f : _ → Prog (TpuEff nD τ sig (Elt F) Λ₀ .tc) β) (Q : β → St (Elt F) → Prop)
    (hf : ∀ x10' x11' x12', Packed (words0 x1 x4) 18 x10' → Packed (words1 x1 x4) 18 x11' → Slotted (gram x10' x11') 317 x12' →
      Runs defs 𝒱 c ⟨arg1, arg2, arg3, arg4, arg5, arg6, arg7, arg8, arg9, arg10, arg11, arg12, arg13, arg14⟩ (f ⟨BitVec.ofNat 32 (i 0).val, gram x10' x11' 35,
        extractStridedSlice S8x64 ![56, 0] (gram x10' x11' 35) slices_S96x96_o56_0_S8x64⟩) Q
        ⟨x1, x2, x3, x4, x5, x6, x7, put (Rect.unit (s := S160x128) ![0, 0] S160x128.size inb_S160x128_S160x128_0_0) (xCodes (wholeX x3)) x8, put (segment i) (xScale (wholeX x3)) x9, x10', x11', x12', put (Rect.unit (s := S2716x128) ![0, 0] S160x128.size inb_S2716x128_S160x128_0_0) (k0_pay18 (k0_pay4 (wholeX x3))) x13, scales x2 x3 x14⟩) :
    Runs defs 𝒱 c ⟨arg1, arg2, arg3, arg4, arg5, arg6, arg7, arg8, arg9, arg10, arg11, arg12, arg13, arg14⟩ (k0_part204 i arg1 harg1 arg2 harg2 arg3 harg3 arg4 harg4 arg5 harg5 arg6 harg6 arg7 harg7 arg8 harg8 arg9 harg9 arg10 harg10 arg11 harg11 arg12 harg12 arg13 harg13 arg14 harg14 >>= f) Q ⟨x1, x2, x3, x4, x5, x6, x7, x8, x9, x10, x11, x12, x13, x14⟩ := by
  refine Runs.bind ?_
  show Runs _ _ _ _ (_ >>= _) _ _
  rw [k0_part1_eq_skeleton]
  refine Runs.bind (Runs.mono (Q := fun b y => b = ⟨BitVec.ofNat 32 (i 0).val, k0_pay4 (wholeX x3), k0_pay5 (wholeX x3), k0_pay6 (wholeX x3), k0_pay7 (wholeX x3)⟩ ∧
    ∃ x10' x11', y = ⟨x1, x2, x3, x4, x5, x6, x7, x8, x9, x10', x11', x12, x13, x14⟩) ?_ ?_)
  · unfold k0_part1_skel
    dsimp only
    split
    · refine Step.load10 ?_
      refine Step.store10 ?_
      refine Step.load11 ?_
      refine Step.store11 ?_
      refine Step.load3 ?_
      exact Runs.ret ⟨rfl, _, _, rfl⟩
    · refine Step.load3 ?_
      exact Runs.ret ⟨rfl, _, _, rfl⟩
  rintro _ _ ⟨rfl, x10', x11', rfl⟩
  clear x10 x11
  rename' x10' => x10, x11' => x11
  show Runs _ _ _ _ (_ >>= _) _ _
  rw [k0_part2_eq_skeleton]
  refine Runs.bind ?_
  refine Runs.ret ?_
  show Runs _ _ _ _ (_ >>= _) _ _
  rw [k0_part3_eq_skeleton]
  refine Runs.bind ?_
  show Runs _ _ _ _ (_ >>= _) _ _
  refine Step.load8 ?_
  refine Step.store8 ?_
  refine Step.load9 ?_
  refine Step.store9 ?_
  refine Step.load14 ?_
  refine Step.store14 ?_
  refine Step.load2 ?_
  refine Step.load14 ?_
  refine Runs.ret ?_
  show Runs _ _ _ _ (_ >>= _) _ _
  rw [k0_part4_eq_skeleton]
  refine Runs.bind ?_
  show Runs _ _ _ _ (_ >>= _) _ _
  refine Step.store14 ?_
  refine Step.load13 ?_
  refine Step.store13 ?_
  have hx10 := Packed.zero (words0 x1 x4) x10
  have hx11 := Packed.zero (words1 x1 x4) x11
  repeat' first
    | with_reducible refine Step.load1 ?_
    | with_reducible refine Step.load4 ?_
    | with_reducible refine Step.load10 ?_
    | with_reducible refine Step.load11 ?_
    | (with_reducible refine Step.pack10 (P := words0 x1 x4) hx10 ?h0 ?h1 ?hw ?_
       case h0 => rfl
       case h1 => decide
       case hw => rfl
       clear hx10
       intro x10' hx10
       simp only [Nat.reduceAdd] at hx10
       try clear x10
       rename' x10' => x10)
    | (with_reducible refine Step.pack11 (P := words1 x1 x4) hx11 ?h0 ?h1 ?hw ?_
       case h0 => rfl
       case h1 => decide
       case hw => rfl
       clear hx11
       intro x11' hx11
       simp only [Nat.reduceAdd] at hx11
       try clear x11
       rename' x11' => x11)
    | (with_reducible refine Runs.bind ?_
       show Runs _ _ _ _ (_ >>= _) _ _)
    | (with_reducible refine Runs.ret ?_
       show Runs _ _ _ _ (_ >>= _) _ _)
    | with_reducible refine Step.tail ?_
  have hx12 := Slotted.zero (gram x10 x11) x12
  repeat' first
    | with_reducible refine Step.load12 ?_
    | with_reducible refine Step.load10 ?_
    | with_reducible refine Step.load11 ?_
    | (with_reducible refine Step.slot (G := gram x10 x11) hx12 ?h0 ?h1 ?h2 ?hw ?_
       case h0 => rfl
       case h1 => rfl
       case h2 => rfl
       case hw => exact ⟨_, _, rfl⟩
       clear hx12
       intro x12' hx12
       simp only [Nat.reduceAdd] at hx12
       try clear x12
       rename' x12' => x12)
    | (with_reducible refine Runs.bind ?_
       show Runs _ _ _ _ (_ >>= _) _ _)
    | (with_reducible refine Runs.ret ?_
       show Runs _ _ _ _ (_ >>= _) _ _)
    | with_reducible refine Step.tail ?_
  exact Runs.ret (Runs.ret (hf _ _ _ hx10 hx11 hx12))

/-- Matrices 35 to 83. -/
theorem run_205 (defs : Defs nD τ sig (Elt F) Λ₀) (𝒱 : Variants) (c : Dev nD) (i : grid0.Coords) (arg1 : Memref sig .tc .vmem S71x160x128 .i8) (harg1 : arg1.IsWhole) (arg2 : Memref sig .tc .vmem S71x128 .f32) (harg2 : arg2.IsWhole) (arg3 : Memref sig .tc .vmem S160x128 .bf16) (harg3 : arg3.IsWhole) (arg4 : Memref sig .tc .vmem S160x128 .i8) (harg4 : arg4.IsWhole) (arg5 : Memref sig .tc .vmem S2716x128 .fp8e4m3) (harg5 : arg5.IsWhole) (arg6 : Memref sig .tc .vmem S1792 .f32) (harg6 : arg6.IsWhole) (arg7 : Memref sig .tc .vmem S71x128 .f32) (harg7 : arg7.IsWhole) (arg8 : Memref sig .tc .vmem S160x128 .fp8e4m3) (harg8 : arg8.IsWhole) (arg9 : Memref sig .tc .vmem S1792 .f32) (harg9 : arg9.IsWhole) (arg10 : Memref sig .tc .vmem S2312x128 .i32) (harg10 : arg10.IsWhole) (arg11 : Memref sig .tc .vmem S2312x128 .i32) (harg11 : arg11.IsWhole) (arg12 : Memref sig .tc .vmem S3584x128 .f32) (harg12 : arg12.IsWhole) (arg13 : Memref sig .tc .vmem S2716x128 .f32) (harg13 : arg13.IsWhole) (arg14 : Memref sig .tc .vmem S72x128 .f32) (harg14 : arg14.IsWhole) x1 x2 x3 x4 x5 x6 x7 x8 x9 x10 x11 x12 x13 x14 {β : Type}
    (f : _ → Prog (TpuEff nD τ sig (Elt F) Λ₀ .tc) β) (Q : β → St (Elt F) → Prop) (hx12 : Slotted (gram x10 x11) 317 x12)
    (hf : ∀ x12', Slotted (gram x10 x11) 756 x12' →
      Runs defs 𝒱 c ⟨arg1, arg2, arg3, arg4, arg5, arg6, arg7, arg8, arg9, arg10, arg11, arg12, arg13, arg14⟩ (f (bitcastToFloat .fp8e4m3 (bitcast S96x128 8 (fun j => x10 ((rowsAt 84).idx j)) bitcasts_S24x128_w32_S96x128_w8))) Q
        ⟨x1, x2, x3, x4, x5, x6, x7, x8, x9, x10, x11, x12', x13, x14⟩) :
    Runs defs 𝒱 c ⟨arg1, arg2, arg3, arg4, arg5, arg6, arg7, arg8, arg9, arg10, arg11, arg12, arg13, arg14⟩ (k0_part205 i arg1 harg1 arg2 harg2 arg3 harg3 arg4 harg4 arg5 harg5 arg6 harg6 arg7 harg7 arg8 harg8 arg9 harg9 arg10 harg10 arg11 harg11 arg12 harg12 arg13 harg13 arg14 harg14 (gram x10 x11 35) (extractStridedSlice S8x64 ![56, 0] (gram x10 x11 35) slices_S96x96_o56_0_S8x64) >>= f) Q ⟨x1, x2, x3, x4, x5, x6, x7, x8, x9, x10, x11, x12, x13, x14⟩ := by
  refine Runs.bind ?_
  show Runs _ _ _ _ (_ >>= _) _ _
  repeat' first
    | with_reducible refine Step.load12 ?_
    | with_reducible refine Step.load10 ?_
    | with_reducible refine Step.load11 ?_
    | (with_reducible refine Step.slot (G := gram x10 x11) hx12 ?h0 ?h1 ?h2 ?hw ?_
       case h0 => rfl
       case h1 => rfl
       case h2 => rfl
       case hw => exact ⟨_, _, rfl⟩
       clear hx12
       intro x12' hx12
       simp only [Nat.reduceAdd] at hx12
       try clear x12
       rename' x12' => x12)
    | (with_reducible refine Runs.bind ?_
       show Runs _ _ _ _ (_ >>= _) _ _)
    | (with_reducible refine Runs.ret ?_
       show Runs _ _ _ _ (_ >>= _) _ _)
    | with_reducible refine Step.tail ?_
  exact Runs.ret (hf _ hx12)

/-- The whole block of results before they are quantised. -/
def wholeZ (x13 : S2716x128.Idx → Elt F .f32) : Vec F S2716x128 .f32 :=
  fun j => x13 ((Rect.unit (s := S2716x128) ![0, 0] S2716x128.size inb_S2716x128_S2716x128_0_0).toLoadRect.idx j)
/-- The exponent field of the scale of the results. -/
def zField (m : Vec F S2716x128 .f32) : IVec S1x128 32 := k0_pay1740 (k0_pay1736 m) k0_pay1737 (k0_pay1738 m) k0_pay1739
/-- Where the scale of the results is a number. -/
def zMask (m : Vec F S2716x128 .f32) : IVec S1x128 1 := k0_pay1741 (k0_pay1736 m) k0_pay1737 (k0_pay1738 m) k0_pay1739
/-- The exponent field where it is not. -/
def zElse (m : Vec F S2716x128 .f32) : IVec S1x128 32 := k0_pay1742 (k0_pay1736 m) k0_pay1737 (k0_pay1738 m) k0_pay1739
/-- The codes of the results. -/
def zCodes (m : Vec F S2716x128 .f32) : FVec F S2716x128 .fp8e4m3 := k0_pay1 m (k0_pay1744 (k0_pay1736 m) (zField m) (zMask m) (zElse m))
/-- The scales of the results. -/
def zScale (m : Vec F S2716x128 .f32) : FVec F S128 .f32 := k0_pay1745 (k0_pay1736 m) (zField m) (zMask m) (zElse m)

/-- What the body leaves of the contents it finds. -/
def After (i : grid0.Coords) (x y : St (Elt F)) : Prop :=
  ∃ x10' x11' x12' x13' x7', Packed (words0 x.c1 x.c4) 18 x10' ∧ Packed (words1 x.c1 x.c4) 18 x11' ∧
    Slotted (gram x10' x11') 1152 x12' ∧ Multiplied (scales x.c2 x.c3 x.c14) x12' (k0_pay18 (k0_pay4 (wholeX x.c3))) 71 x13' ∧
    Crossed (scales x.c2 x.c3 x.c14) x12' 71 x7' ∧
    y = ⟨x.c1, x.c2, x.c3, x.c4, put (Rect.unit (s := S2716x128) ![0, 0] S2716x128.size inb_S2716x128_S2716x128_0_0) (zCodes (wholeZ x13')) x.c5, put (segment i) (zScale (wholeZ x13')) x.c6, x7', put (Rect.unit (s := S160x128) ![0, 0] S160x128.size inb_S160x128_S160x128_0_0) (xCodes (wholeX x.c3)) x.c8, put (segment i) (xScale (wholeX x.c3)) x.c9, x10', x11', x12', x13', scales x.c2 x.c3 x.c14⟩

/-- The run of the body. -/
theorem run_body (defs : Defs nD τ sig (Elt F) Λ₀) (𝒱 : Variants) (c : Dev nD) (i : grid0.Coords) (arg1 : Memref sig .tc .vmem S71x160x128 .i8) (harg1 : arg1.IsWhole) (arg2 : Memref sig .tc .vmem S71x128 .f32) (harg2 : arg2.IsWhole) (arg3 : Memref sig .tc .vmem S160x128 .bf16) (harg3 : arg3.IsWhole) (arg4 : Memref sig .tc .vmem S160x128 .i8) (harg4 : arg4.IsWhole) (arg5 : Memref sig .tc .vmem S2716x128 .fp8e4m3) (harg5 : arg5.IsWhole) (arg6 : Memref sig .tc .vmem S1792 .f32) (harg6 : arg6.IsWhole) (arg7 : Memref sig .tc .vmem S71x128 .f32) (harg7 : arg7.IsWhole) (arg8 : Memref sig .tc .vmem S160x128 .fp8e4m3) (harg8 : arg8.IsWhole) (arg9 : Memref sig .tc .vmem S1792 .f32) (harg9 : arg9.IsWhole) (arg10 : Memref sig .tc .vmem S2312x128 .i32) (harg10 : arg10.IsWhole) (arg11 : Memref sig .tc .vmem S2312x128 .i32) (harg11 : arg11.IsWhole) (arg12 : Memref sig .tc .vmem S3584x128 .f32) (harg12 : arg12.IsWhole) (arg13 : Memref sig .tc .vmem S2716x128 .f32) (harg13 : arg13.IsWhole) (arg14 : Memref sig .tc .vmem S72x128 .f32) (harg14 : arg14.IsWhole) x1 x2 x3 x4 x5 x6 x7 x8 x9 x10 x11 x12 x13 x14 :
    Runs defs 𝒱 c ⟨arg1, arg2, arg3, arg4, arg5, arg6, arg7, arg8, arg9, arg10, arg11, arg12, arg13, arg14⟩ (cc0__body i arg1 harg1 arg2 harg2 arg3 harg3 arg4 harg4 arg5 harg5 arg6 harg6 arg7 harg7 arg8 harg8 arg9 harg9 arg10 harg10 arg11 harg11 arg12 harg12 arg13 harg13 arg14 harg14) (fun _ y => After i ⟨x1, x2, x3, x4, x5, x6, x7, x8, x9, x10, x11, x12, x13, x14⟩ y) ⟨x1, x2, x3, x4, x5, x6, x7, x8, x9, x10, x11, x12, x13, x14⟩ := by
  rw [cc0__body_eq_skeleton]
  show Runs _ _ _ _ (_ >>= _) _ _
  apply run_204
  intro x10' x11' x12' hx10 hx11 hx12
  show Runs _ _ _ _ (_ >>= _) _ _
  apply run_205 (hx12 := hx12)
  clear hx12 x12'
  intro x12' hx12
  have hR : ∀ (q : Shape.Idx ⟨2, ![2716, 128]⟩) (p : Shape.Idx ⟨2, ![160, 128]⟩), (q 0).val = (p 0).val → (q 1).val = (p 1).val →
      put (Rect.unit (s := S2716x128) ![0, 0] S160x128.size inb_S2716x128_S160x128_0_0) (k0_pay18 (k0_pay4 (wholeX x3))) x13 q =
        k0_pay18 (k0_pay4 (wholeX x3)) p := by
    intro q p h0 h1
    have hq : q = Rect.emb (Rect.unit (s := S2716x128) ![0, 0] S160x128.size inb_S2716x128_S160x128_0_0) p := by
      funext a
      apply Fin.ext
      fin_cases a
      · show (q 0).val = 0 + 1 * (p 0).val
        omega
      · show (q 1).val = 0 + 1 * (p 1).val
        omega
    rw [hq, put_emb]
  generalize hR0 : (k0_pay18 (k0_pay4 (wholeX x3)) : S160x128.Idx → Elt F .f32) = R at hR ⊢
  generalize hS0 : scales x2 x3 x14 = S
  generalize hX13 : put (Rect.unit (s := S2716x128) ![0, 0] S160x128.size inb_S2716x128_S160x128_0_0) R x13 = Y13 at hR ⊢
  generalize hX8 : put (Rect.unit (s := S160x128) ![0, 0] S160x128.size inb_S160x128_S160x128_0_0) (xCodes (wholeX x3)) x8 = Y8
  generalize hX9 : put (segment i) (xScale (wholeX x3)) x9 = Y9
  refine Runs.mono (Q := fun _ y => ∃ x12' x13' x7', Slotted (gram x10' x11') 1152 x12' ∧ Multiplied S x12' R 71 x13' ∧ Crossed S x12' 71 x7' ∧
    y = ⟨x1, x2, x3, x4, put (Rect.unit (s := S2716x128) ![0, 0] S2716x128.size inb_S2716x128_S2716x128_0_0) (zCodes (wholeZ x13')) x5, put (segment i) (zScale (wholeZ x13')) x6, x7', Y8, Y9, x10', x11', x12', x13', S⟩) ?_ ?_
  · clear hS0 hX13 hX8 hX9 hR0 x14 x13 x8 x9 hx10 hx11
    rename' Y13 => x13, S => x14, Y8 => x8, Y9 => x9, x10' => x10, x11' => x11, x12' => x12
    show Runs _ _ _ _ (_ >>= _) _ _
    refine Runs.bind ?_
    show Runs _ _ _ _ (_ >>= _) _ _
    repeat' first
      | with_reducible refine Step.load12 ?_
      | with_reducible refine Step.load10 ?_
      | with_reducible refine Step.load11 ?_
      | (with_reducible refine Step.slot (G := gram x10 x11) hx12 ?h0 ?h1 ?h2 ?hw ?_
         case h0 => rfl
         case h1 => rfl
         case h2 => rfl
         case hw => exact ⟨_, _, rfl⟩
         clear hx12
         intro x12' hx12
         simp only [Nat.reduceAdd] at hx12
         try clear x12
         rename' x12' => x12)
      | (with_reducible refine Runs.bind ?_
         show Runs _ _ _ _ (_ >>= _) _ _)
      | (with_reducible refine Runs.ret ?_
         show Runs _ _ _ _ (_ >>= _) _ _)
      | with_reducible refine Step.tail ?_
    have hx13 : Multiplied x14 x12 R 0 x13 := ⟨hR, fun k' hk' => absurd hk' (Nat.not_lt_zero _)⟩
    have hx7 := Crossed.zero x14 x12 x7
    clear hR
    repeat' first
      | with_reducible refine Step.load12 ?_
      | with_reducible refine Step.load14 ?_
      | with_reducible refine Step.load13 ?_
      | with_reducible refine Step.load7 ?_
      | (with_reducible refine Step.prod (R := R) hx13 ?h0 ?h1 ?h2 ?hw ?_
         case h0 => decide
         case h1 => rfl
         case h2 => rfl
         case hw =>
           first
             | exact ⟨_, ⟨_, _, _, _, _, _, rfl⟩, _, rfl⟩
             | exact ⟨_, IsStored.one ⟨_, _, _, _, _, rfl⟩, _, rfl⟩
         clear hx13
         intro x13' hx13
         simp only [Nat.reduceAdd] at hx13
         try clear x13
         rename' x13' => x13)
      | (with_reducible refine Step.cross hx7 ?h0 ?h1 ?hw ?_
         case h0 => decide
         case h1 => rfl
         case hw =>
           first
             | exact ⟨_, ⟨_, _, _, _, _, _, rfl⟩, _, rfl⟩
             | exact ⟨_, IsStored.one ⟨_, _, _, _, _, rfl⟩, slice_one _⟩
         clear hx7
         intro x7' hx7
         simp only [Nat.reduceAdd] at hx7
         try clear x7
         rename' x7' => x7)
      | (with_reducible refine Runs.bind ?_
         show Runs _ _ _ _ (_ >>= _) _ _)
      | (with_reducible refine Runs.ret ?_
         show Runs _ _ _ _ (_ >>= _) _ _)
      | with_reducible refine Step.tail ?_
    rw [k0_part202_eq_skeleton]
    refine Runs.bind ?_
    refine Runs.ret ?_
    show Runs _ _ _ _ (_ >>= _) _ _
    rw [k0_part203_eq_skeleton]
    refine Runs.bind ?_
    refine Runs.ret ?_
    show Runs _ _ _ _ (_ >>= _) _ _
    refine Step.load6 ?_
    refine Step.store6 ?_
    refine Step.load5 ?_
    refine Step.store5 ?_
    exact Runs.ret ⟨_, _, _, hx12, hx13, hx7, rfl⟩
  · rintro _ _ ⟨x12'', x13', x7', h12, h13, h7, rfl⟩
    subst hR0 hS0
    exact ⟨_, _, _, _, _, hx10, hx11, h12, h13, h7, by rw [← hX8, ← hX9]⟩

end Cert.KernelIdeal.Run
-- ==== Proof.HandIdeal.lean ====
/-
  The pipeline around the body: what every point may find and leave in the windows, and the run of the whole
  program from any memory.
-/
module

public import proofs.«01_k».proof.Proof.RunIdeal
public import proofs.«01_k».proof.Proof.Gen.KernelIdeal.Frame

@[expose] public section

set_option maxRecDepth 16384

noncomputable section

namespace Cert.KernelIdeal.Run

open Cert.Proof Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The contents whose four inputs are the blocks of point `t`. -/
def Found (c : Dev nD) (t : Fin cfg0.N) (x : St (Elt F)) : Prop :=
  (∃ d, x.c1 = (cfg0.win 0).fill (cfg0.grid.coords t) d (iblk m c 0 t)) ∧
  (∃ d, x.c2 = (cfg0.win 1).fill (cfg0.grid.coords t) d (iblk m c 1 t)) ∧
  (∃ d, x.c3 = (cfg0.win 2).fill (cfg0.grid.coords t) d (iblk m c 2 t)) ∧
  (∃ d, x.c4 = (cfg0.win 3).fill (cfg0.grid.coords t) d (iblk m c 3 t))

/-- What the body leaves in a window of what it found there. -/
def leaves (c : Dev nD) : (w : Fin cfg0.W) → (t : Fin cfg0.N) → (Y X : (cfg0.win w).block.Idx → Elt F (cfg0.win w).elt) → Prop
  | 0, t => fun Y X => X = Y
  | 1, t => fun Y X => X = Y
  | 2, t => fun Y X => X = Y
  | 3, t => fun Y X => X = Y
  | 4, t => fun Y X => ∃ x y : St (Elt F), Found m c t x ∧ Run.After (grid0.coords t) x y ∧ x.c5 = Y ∧ y.c5 = X
  | 5, t => fun Y X => ∃ x y : St (Elt F), Found m c t x ∧ Run.After (grid0.coords t) x y ∧ x.c6 = Y ∧ y.c6 = X
  | 6, t => fun Y X => ∃ x y : St (Elt F), Found m c t x ∧ Run.After (grid0.coords t) x y ∧ x.c7 = Y ∧ y.c7 = X
  | 7, t => fun Y X => ∃ x y : St (Elt F), Found m c t x ∧ Run.After (grid0.coords t) x y ∧ x.c8 = Y ∧ y.c8 = X
  | 8, t => fun Y X => ∃ x y : St (Elt F), Found m c t x ∧ Run.After (grid0.coords t) x y ∧ x.c9 = Y ∧ y.c9 = X

/-- The data of the pipeline. -/
def rdat (c : Dev nD) : RDat τ (Elt F) Unit ℕ (UR sig nD τ) ℕ cfg0 c where
  A w := V m c (Pipeline.arrRef spec0 w)
  after := leaves m c
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := by
  intro t Y hY
  rw [bigSep_W0, bigSep_W0, defs₀_row]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  have h0 := ((rdat m c).finds_of_fetch (fetch0_0 t) (Y 0)).mp (hY 0)
  have h1 := ((rdat m c).finds_of_fetch (fetch0_1 t) (Y 1)).mp (hY 1)
  have h2 := ((rdat m c).finds_of_fetch (fetch0_2 t) (Y 2)).mp (hY 2)
  have h3 := ((rdat m c).finds_of_fetch (fetch0_3 t) (Y 3)).mp (hY 3)
  iintro ⟨⟨⟨⟨%f0, HS0⟩, ⟨%f1, HS1⟩, ⟨%f2, HS2⟩, ⟨%f3, HS3⟩, ⟨%f4, HS4⟩⟩, Hg⟩, HO, HY0, HY1, HY2, HY3, HY4, HY5, HY6, HY7, HY8⟩
  iapply (wp_wand frame (wpE (defs₀ (F := F)) Variants.none (c : Thread nD τ) none) Set.univ (Q := fun _ => iprop(∃ y, ⌜Run.After (grid0.coords t) ⟨Y 0, Y 1, Y 2, Y 3, Y 4, Y 5, Y 6, Y 7, Y 8, f0, f1, f2, f3, f4⟩ y⌝ ∗ Own c ⟨st0_0 t, st0_1 t, st0_2 t, st0_3 t, st0_4 t, st0_5 t, st0_6 t, st0_7 t, st0_8 t, Memref.whole cc0_scratch0, Memref.whole cc0_scratch1, Memref.whole cc0_scratch2, Memref.whole cc0_scratch3, Memref.whole cc0_scratch4⟩ y))) $$ [HY0 HY1 HY2 HY3 HY4 HY5 HY6 HY7 HY8 HS0 HS1 HS2 HS3 HS4]
  · have hr := run_body (F := F) (defs₀ (F := F)) Variants.none c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
      (Y 0) (Y 1) (Y 2) (Y 3) (Y 4) (Y 5) (Y 6) (Y 7) (Y 8) f0 f1 f2 f3 f4
    iapply (hr (fun _ => iprop(∃ y, ⌜Run.After (grid0.coords t) ⟨Y 0, Y 1, Y 2, Y 3, Y 4, Y 5, Y 6, Y 7, Y 8, f0, f1, f2, f3, f4⟩ y⌝ ∗ Own c ⟨st0_0 t, st0_1 t, st0_2 t, st0_3 t, st0_4 t, st0_5 t, st0_6 t, st0_7 t, st0_8 t, Memref.whole cc0_scratch0, Memref.whole cc0_scratch1, Memref.whole cc0_scratch2, Memref.whole cc0_scratch3, Memref.whole cc0_scratch4⟩ y)) (fun _ y hy => by
      iintro H
      iexists y
      isplitr; · ipureintro; exact hy
      iexact H))
    unfold Own
    dsimp only
    isplitl [HY0]; · iexact HY0
    isplitl [HY1]; · iexact HY1
    isplitl [HY2]; · iexact HY2
    isplitl [HY3]; · iexact HY3
    isplitl [HY4]; · iexact HY4
    isplitl [HY5]; · iexact HY5
    isplitl [HY6]; · iexact HY6
    isplitl [HY7]; · iexact HY7
    isplitl [HY8]; · iexact HY8
    isplitl [HS0]; · rw [owns_whole]; iexact HS0
    isplitl [HS1]; · rw [owns_whole]; iexact HS1
    isplitl [HS2]; · rw [owns_whole]; iexact HS2
    isplitl [HS3]; · rw [owns_whole]; iexact HS3
    rw [owns_whole]; iexact HS4
  iintro %v ⟨%y, %hy, H⟩
  unfold Own
  icases H with ⟨HY0, HY1, HY2, HY3, HY4, HY5, HY6, HY7, HY8, HS0, HS1, HS2, HS3, HS4⟩
  have hf : Found m c t ⟨Y 0, Y 1, Y 2, Y 3, Y 4, Y 5, Y 6, Y 7, Y 8, f0, f1, f2, f3, f4⟩ := ⟨h0, h1, h2, h3⟩
  have hin := hy
  obtain ⟨w10, w11, w12, w13, w7, -, -, -, -, -, he⟩ := hin
  isplitl [HS0 HS1 HS2 HS3 HS4 Hg]
  · isplitl [HS0 HS1 HS2 HS3 HS4]
    · isplitl [HS0]; · iexists _; rw [← owns_whole]; iexact HS0
      isplitl [HS1]; · iexists _; rw [← owns_whole]; iexact HS1
      isplitl [HS2]; · iexists _; rw [← owns_whole]; iexact HS2
      isplitl [HS3]; · iexists _; rw [← owns_whole]; iexact HS3
      iexists _; rw [← owns_whole]; iexact HS4
    iexact Hg
  isplitl [HO]; · iexact HO
  isplitl [HY0]
  · iexists _; isplitr; swap; · iexact HY0
    ipureintro; rw [he]; rfl
  isplitl [HY1]
  · iexists _; isplitr; swap; · iexact HY1
    ipureintro; rw [he]; rfl
  isplitl [HY2]
  · iexists _; isplitr; swap; · iexact HY2
    ipureintro; rw [he]; rfl
  isplitl [HY3]
  · iexists _; isplitr; swap; · iexact HY3
    ipureintro; rw [he]; rfl
  isplitl [HY4]
  · iexists _; isplitr; swap; · iexact HY4
    ipureintro; exact ⟨_, _, hf, hy, rfl, rfl⟩
  isplitl [HY5]
  · iexists _; isplitr; swap; · iexact HY5
    ipureintro; exact ⟨_, _, hf, hy, rfl, rfl⟩
  isplitl [HY6]
  · iexists _; isplitr; swap; · iexact HY6
    ipureintro; exact ⟨_, _, hf, hy, rfl, rfl⟩
  isplitl [HY7]
  · iexists _; isplitr; swap; · iexact HY7
    ipureintro; exact ⟨_, _, hf, hy, rfl, rfl⟩
  iexists _; isplitr; swap; · iexact HY8
  ipureintro; exact ⟨_, _, hf, hy, rfl, rfl⟩

set_option backward.isDefEq.respectTransparency.types false in
/-- The run of the program: every final state holds what the windows may hold, and every counter is at zero. -/
theorem run_main :
    θ_run defs (onTc (τ := τ) (main (F := F))) (s₀ m ρ)
      (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl) (hΦ := fun _ _ => rfl)
    (hQ' := fun _ h => h)

variable {m} in
/-- The arguments are as launched. -/
theorem args_kept {r : PUnit × MemSt nD τ sig (Elt F)} (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.KernelIdeal.Run

end
-- ==== Proof.RowsIdeal.lean ====
/-
  The kernel's quantiser of x, element by element: the scale of a lane and its codes.
-/
module

public import proofs.«01_k».proof.Proof.Gen.KernelIdeal.Skeleton
public import proofs.«01_k».proof.Proof.Scale
public import Idealize.ShloMosaic.Lib.Pipeline.Value
public import Idealize.ShloMosaic.Lib.ValueIdxCore

@[expose] public section

set_option maxRecDepth 16384
set_option backward.isDefEq.respectTransparency.types false

noncomputable section

namespace Cert.KernelIdeal.Rows

open Cert Cert.KernelIdeal Cert.KernelIdeal.Gen Cert.Scale
open Idealize.ShloMosaic Idealize.ShloMosaic.TcCoe Idealize.ShloMosaic.ValueIdx

theorem lift_col (j : S128.Idx) (k : Fin 160) : (reduces_S160x128_S128).lift j k = ix2 k (j 0) := by
  funext a; apply Fin.ext
  rw [Shape.Reduces.lift_val]
  match a with
  | ⟨0, _⟩ => rfl
  | ⟨1, _⟩ => rfl

/-- The magnitudes of a lane, their greatest. -/
abbrev lane (v : Vec Ideal S160x128 .bf16) (j : Fin 128) : EReal := rowMax fun k : Fin 160 => v (ix2 k j)

theorem widened (v : Vec Ideal S160x128 .bf16) : k0_pay4 v = v := by
  unfold k0_pay4
  dsimp only
  rw [shapeCast_self]
  rfl

theorem colMax_eq (v : Vec Ideal S160x128 .bf16) (j : S128.Idx) :
    multiReduction (F := Ideal) .maximumf [0] S128 (absf (k0_pay4 v)) 0xFF800000#32 reduces_S160x128_S128 (.inl rfl) rfl j
      = lane v (j 0) := by
  refine (Ideal.multiReduction_maximumf_single _ _ _ _ _ j).trans ?_
  rw [widened]
  unfold lane rowMax
  refine Finset.fold_congr fun k _ => ?_
  show max (v ((reduces_S160x128_S128).lift j k)) (-v ((reduces_S160x128_S128).lift j k)) = _
  rw [lift_col]
  rfl

theorem lane_eq (v : Vec Ideal S160x128 .bf16) (i : Fin 1) (j : Fin 128) :
    k0_pay5 v (ix2 i j) = lane v j * factor := by
  unfold k0_pay5
  show shapeCast S1x128 _ shapeCasts_S128_S1x128 (ix2 i j) * factor = _
  rw [shapeCast_apply _ _ (ix2 i j) (ix1 j) (by
    refine (Shape.rowMajor_val_one (d := ![128]) _).trans ((Shape.rowMajor_val_two (d := ![1, 128]) (ix2 i j)).trans ?_).symm
    show i.val * 128 + j.val = j.val
    omega), colMax_eq]

/-- One step of the search, on every lane. -/
def stepV (t : FVec Ideal S1x128 .f32) (b : BitVec 32) (n : IVec S1x128 32) : IVec S1x128 32 :=
  select (cmpf .oge t (bitcastToFloat .f32 (shli (addi n (broadcast S1x128 b)) (broadcast S1x128 23#32)))) (addi n (broadcast S1x128 b)) n

theorem stepV_apply (t : FVec Ideal S1x128 .f32) (b : BitVec 32) (n : IVec S1x128 32) (j : S1x128.Idx) :
    stepV t b n j = step (t j) b (n j) := rfl

theorem first_steps (v : Vec Ideal S160x128 .bf16) :
    k0_pay6 v = stepV (k0_pay5 v) 32#32 (stepV (k0_pay5 v) 64#32 (stepV (k0_pay5 v) 128#32 (broadcast S1x128 0#32))) := rfl

theorem last_steps (t : FVec Ideal S1x128 .f32) (n : IVec S1x128 32) :
    k0_pay8 t n (addi n (broadcast S1x128 16#32))
      = stepV t 1#32 (stepV t 2#32 (stepV t 4#32 (stepV t 8#32 (stepV t 16#32 n)))) := rfl

/-- The exponent field found for a lane. -/
theorem field_eq (v : Vec Ideal S160x128 .bf16) (j : S1x128.Idx) :
    k0_pay8 (k0_pay5 v) (k0_pay6 v) (k0_pay7 v) j = field (k0_pay5 v j) := by
  have h : k0_pay7 v = addi (k0_pay6 v) (broadcast S1x128 16#32) := rfl
  rw [h, last_steps, first_steps]
  simp only [stepV_apply]
  rfl

theorem exponent_eq (t : FVec Ideal S1x128 .f32) (n : IVec S1x128 32) (j : S1x128.Idx) :
    k0_pay11 t n (k0_pay9 t) k0_pay10 j = exponent (t j) (n j) := rfl

/-- The scale of a lane is the reference's scale of that row. -/
theorem scale_eq (v : Vec Ideal S160x128 .bf16) (p : Fin 128) :
    k0_pay14 (k0_pay5 v) (k0_pay8 (k0_pay5 v) (k0_pay6 v) (k0_pay7 v)) (k0_pay9 (k0_pay5 v)) k0_pay10 (ix1 p)
      = scaleR (lane v p) := by
  rw [← (agree (lane v p) (rowMax_nonneg _ (0 : Fin 160))).1, ← lane_eq v 0 p]
  unfold scaleOf
  rw [← field_eq v (ix2 (0 : Fin 1) p), ← exponent_eq]
  exact shapeCast_apply (k0_pay12 (k0_pay5 v) _ _ _) shapeCasts_S1x128_S128 (ix1 p) (ix2 (0 : Fin 1) p) (by
    refine (Shape.rowMajor_val_two (d := ![1, 128]) (ix2 (0 : Fin 1) p)).trans ((Shape.rowMajor_val_one (d := ![128]) (ix1 p)).trans ?_).symm
    show p.val = 0 * 128 + p.val
    omega)

/-- The codes of a lane are the reference's codes of that row. -/
theorem codes_eq (v : Vec Ideal S160x128 .bf16) (k : Fin 160) (p : Fin 128) :
    k0_pay13 (k0_pay4 v) (k0_pay5 v) (k0_pay8 (k0_pay5 v) (k0_pay6 v) (k0_pay7 v)) (k0_pay9 (k0_pay5 v)) k0_pay10 (ix2 k p)
      = code (inverseR (lane v p)) (v (ix2 k p)) := by
  rw [← (agree (lane v p) (rowMax_nonneg _ (0 : Fin 160))).2, ← lane_eq v 0 p, widened]
  unfold inverseOf
  rw [← field_eq v (ix2 (0 : Fin 1) p), ← exponent_eq]
  exact congrArg (fun s => code s (v (ix2 k p)))
    (broadcastTo_apply _ broadcasts_S1x128_S160x128 (ix2 k p) (ix2 (0 : Fin 1) p)
      (fun a => by match a with | ⟨0, _⟩ => rfl | ⟨1, _⟩ => rfl))

end Cert.KernelIdeal.Rows

end
-- ==== Proof.ArraysIdeal.lean ====
/-
  What the kernel's run leaves in the arrays of the codes and of the scales of x.
-/
module

public import proofs.«01_k».proof.Proof.HandIdeal
public import proofs.«01_k».proof.Proof.RowsIdeal
public import Idealize.ShloMosaic.Lib.Pipeline.ArrRel
public import Idealize.ShloMosaic.Lib.Pipeline.ValueKit.Geometry

@[expose] public section

set_option maxRecDepth 16384
set_option backward.isDefEq.respectTransparency.types false

noncomputable section

namespace Cert.KernelIdeal.Rows

open Cert Cert.Proof Cert.KernelIdeal Cert.KernelIdeal.Gen Cert.KernelIdeal.Run Cert.Scale
open Idealize.ShloMosaic
open Idealize.ShloMosaic.TcCoe Idealize.ShloMosaic.ValueIdx Idealize.ShloMosaic.StableHlo
open Idealize.ShloMosaic.Pipeline (RDat)

variable (m : (ℓ : Loc nD τ sig) → Buf (Elt Ideal) ℓ)

/-- The argument x on core `c`. -/
abbrev argX (c : Dev nD) : Vec Ideal S1792x160 .bf16 := m ((c.tc : Thread nD τ).loc main_arg2)

/-- The array the third window reads is the argument with its two axes exchanged. -/
theorem V_x (c : Dev nD) : V m c main_v2 = transpose S160x1792 [1, 0] (argX m c) transposes_S1792x160_S160x1792_1_0 := by
  show StableHlo.after hostOps0 (fun b => m (c, b)) main_v2 = _
  unfold hostOps0
  after_results

theorem V_x_apply (c : Dev nD) (k : Fin 160) (p : Fin 1792) : V m c main_v2 (ix2 k p) = argX m c (ix2 p k) := by
  rw [V_x]
  exact transpose_apply _ (argX m c) transposes_S1792x160_S160x1792_1_0 (ix2 k p) (ix2 p k)
    (fun b => by match b with | ⟨0, _⟩ => rfl | ⟨1, _⟩ => rfl)

theorem lt_lanes (t : Fin cfg0.N) (p : Fin 128) : 128 * t.val + p.val < 1792 := by
  have h : t.val < 14 := t.isLt
  omega

/-- Lane `p` of point `t`, as a row of x. -/
abbrev rowOf (t : Fin cfg0.N) (p : Fin 128) : Fin 1792 := ⟨128 * t.val + p.val, lt_lanes t p⟩

theorem index_x : ∀ t : Fin cfg0.N, win0_2.index t (0 : Fin 2) = 0 ∧ win0_2.index t (1 : Fin 2) = t.val :=
  (by decide +kernel : ∀ t : Fin grid0.N, _)
theorem index_codes : ∀ t : Fin cfg0.N, win0_7.index t (0 : Fin 2) = 0 ∧ win0_7.index t (1 : Fin 2) = t.val :=
  (by decide +kernel : ∀ t : Fin grid0.N, _)
theorem index_scales : ∀ t : Fin cfg0.N, win0_8.index t (0 : Fin 1) = 0 :=
  (by decide +kernel : ∀ t : Fin grid0.N, _)
theorem coord_eq : ∀ t : Fin cfg0.N, (grid0.coords t (0 : Fin 1)).val = t.val :=
  (by decide +kernel : ∀ t : Fin grid0.N, _)

theorem emb_x (t : Fin cfg0.N) (k : Fin 160) (p : Fin 128) :
    ((cfg0.win 2).blk t).view.emb (ix2 k p : S160x128.Idx) = (ix2 k (rowOf t p) : S160x1792.Idx) := by
  obtain ⟨e0, e1⟩ := index_x t
  funext a; apply Fin.ext
  match a with
  | ⟨0, _⟩ => show win0_2.index t (0 : Fin 2) * 160 + 1 * k.val = k.val; omega
  | ⟨1, _⟩ => show win0_2.index t (1 : Fin 2) * 128 + 1 * p.val = 128 * t.val + p.val; omega

theorem emb_codes (t : Fin cfg0.N) (k : Fin 160) (p : Fin 128) :
    ((cfg0.win 7).blk t).view.emb (ix2 k p : S160x128.Idx) = (ix2 k (rowOf t p) : S160x1792.Idx) := by
  obtain ⟨e0, e1⟩ := index_codes t
  funext a; apply Fin.ext
  match a with
  | ⟨0, _⟩ => show win0_7.index t (0 : Fin 2) * 160 + 1 * k.val = k.val; omega
  | ⟨1, _⟩ => show win0_7.index t (1 : Fin 2) * 128 + 1 * p.val = 128 * t.val + p.val; omega

theorem emb_scales (t : Fin cfg0.N) (p : Fin 1792) :
    ((cfg0.win 8).blk t).view.emb (ix1 p : S1792.Idx) = (ix1 p : S1792.Idx) := by
  have e0 := index_scales t
  funext a; apply Fin.ext
  match a with
  | ⟨0, _⟩ => show win0_8.index t (0 : Fin 1) * 1792 + 1 * p.val = p.val; omega

theorem emb_whole (k : Fin 160) (p : Fin 128) :
    (Rect.unit (s := S160x128) ![0, 0] S160x128.size inb_S160x128_S160x128_0_0).emb (ix2 k p : S160x128.Idx) = (ix2 k p : S160x128.Idx) := by
  funext a; apply Fin.ext
  match a with
  | ⟨0, _⟩ => show 0 + 1 * k.val = k.val; omega
  | ⟨1, _⟩ => show 0 + 1 * p.val = p.val; omega

/-- What the body reads of x at point `t`. -/
theorem found_x {c : Dev nD} {t : Fin cfg0.N} {x : St (Elt Ideal)} (h : Found m c t x) (k : Fin 160) (p : Fin 128) :
    wholeX x.c3 (ix2 k p) = argX m c (ix2 (rowOf t p) k) := by
  obtain ⟨-, -, ⟨d, hd⟩, -⟩ := h
  have e : x.c3 = iblk m c 2 t := hd
  have e' : wholeX x.c3 (ix2 k p) = x.c3 (ix2 k p) := congrArg x.c3 (emb_whole k p)
  rw [e', e]
  have e'' : iblk m c 2 t (ix2 k p : S160x128.Idx) = V m c main_v2 (ix2 k (rowOf t p)) := congrArg (V m c main_v2) (emb_x t k p)
  exact e''.trans (V_x_apply m c k (rowOf t p))

theorem found_lane {c : Dev nD} {t : Fin cfg0.N} {x : St (Elt Ideal)} (h : Found m c t x) (p : Fin 128) :
    lane (wholeX x.c3) p = rowMax fun k : Fin 160 => argX m c (ix2 (rowOf t p) k) :=
  congrArg rowMax (funext fun k => found_x m h k p)

/-- The scales of the rows of x, and their codes with the two axes exchanged. -/
def scalesOf (a : Vec Ideal S1792x160 .bf16) : Vec Ideal S1792 .f32 :=
  fun j => scaleR (rowMax fun k : Fin 160 => a (ix2 (j 0) k))
def codesOf (a : Vec Ideal S1792x160 .bf16) : Vec Ideal S160x1792 .fp8e4m3 :=
  fun j => code (inverseR (rowMax fun k : Fin 160 => a (ix2 (j 1) k))) (a (ix2 (j 1) (j 0)))

/-- What any point leaves in the window of the codes. -/
theorem leaves_codes {c : Dev nD} {t : Fin cfg0.N} {X : S160x128.Idx → EReal} (h : (rdat m c).Leaves 7 t X) (k : Fin 160) (p : Fin 128) :
    X (ix2 k p) = codesOf (argX m c) (ix2 k (rowOf t p)) := by
  obtain ⟨Y, -, x, y, hf, ⟨_, _, _, _, _, -, -, -, -, -, hy⟩, -, hX⟩ := h
  have e : X = put (Rect.unit (s := S160x128) ![0, 0] S160x128.size inb_S160x128_S160x128_0_0) (xCodes (wholeX x.c3)) x.c8 := by
    rw [← hX, hy]
  have e1 := put_emb (Rect.unit (s := S160x128) ![0, 0] S160x128.size inb_S160x128_S160x128_0_0) (xCodes (wholeX x.c3)) x.c8 (ix2 k p : S160x128.Idx)
  rw [emb_whole] at e1
  rw [e]
  refine e1.trans ((codes_eq (wholeX x.c3) k p).trans ?_)
  rw [found_lane m hf, found_x m hf]
  rfl

theorem emb_segment (t : Fin cfg0.N) (p : Fin 128) : (segment (grid0.coords t)).emb (ix1 p : S128.Idx) = (ix1 (rowOf t p) : S1792.Idx) := by
  funext a; apply Fin.ext
  match a with
  | ⟨0, _⟩ =>
    show k0_off1 (grid0.coords t) 0 + 1 * p.val = 128 * t.val + p.val
    rw [k0_off1_eq]
    show 128 * (grid0.coords t 0).val + 1 * p.val = 128 * t.val + p.val
    rw [coord_eq]; omega

/-- The rows of the point itself. -/
theorem scales_new {c : Dev nD} {t : Fin cfg0.N} {x : St (Elt Ideal)} (hf : Found m c t x) (X : S1792.Idx → EReal)
    (e : X = put (segment (grid0.coords t)) (xScale (wholeX x.c3)) x.c9) (p : Fin 1792) (h0 : 128 * t.val ≤ p.val)
    (h1 : p.val < 128 * t.val + 128) : X (ix1 p) = scalesOf (argX m c) (ix1 p) := by
  obtain ⟨q, rfl⟩ : ∃ q : Fin 128, p = rowOf t q := ⟨⟨p.val - 128 * t.val, by omega⟩, Fin.ext (by show p.val = 128 * t.val + (p.val - 128 * t.val); omega)⟩
  have e1 := put_emb (segment (grid0.coords t)) (xScale (wholeX x.c3)) x.c9 (ix1 q : S128.Idx)
  rw [emb_segment] at e1
  rw [e]
  refine e1.trans ((scale_eq (wholeX x.c3) q).trans ?_)
  rw [found_lane m hf]
  rfl

/-- The rows of the points before stay. -/
theorem scales_old (t : Fin cfg0.N) (w : S128.Idx → EReal) (Y : S1792.Idx → EReal) (p : Fin 1792) (h : p.val < 128 * t.val) :
    put (segment (grid0.coords t)) w Y (ix1 p) = Y (ix1 p) := by
  refine put_of_ne _ _ _ _ fun j hj => ?_
  have h0 : k0_off1 (grid0.coords t) 0 + 1 * (j 0).val = p.val := congrArg (fun i : S1792.Idx => (i 0).val) hj
  rw [k0_off1_eq] at h0
  have h1 : 128 * (grid0.coords t 0).val + 1 * (j 0).val = p.val := h0
  rw [coord_eq] at h1
  omega

/-- What point `t` leaves in the window of the scales: those of every row met so far. -/
theorem leaves_scales {c : Dev nD} : ∀ (n : Nat) (t : Fin cfg0.N), t.val = n → ∀ X : S1792.Idx → EReal, (rdat m c).Leaves 8 t X →
    ∀ p : Fin 1792, p.val < 128 * (n + 1) → X (ix1 p) = scalesOf (argX m c) (ix1 p) := by
  intro n
  induction n with
  | zero =>
    intro t ht X h p hp
    obtain ⟨Y, -, x, y, hf, ⟨_, _, _, _, _, -, -, -, -, -, hy⟩, -, hX⟩ := h
    have e : X = put (segment (grid0.coords t)) (xScale (wholeX x.c3)) x.c9 := by rw [← hX, hy]
    exact scales_new m hf X e p (by omega) (by omega)
  | succ n ih =>
    intro t ht X h p hp
    obtain ⟨Y, hY, x, y, hf, ⟨_, _, _, _, _, -, -, -, -, -, hy⟩, hx, hX⟩ := h
    have e : X = put (segment (grid0.coords t)) (xScale (wholeX x.c3)) x.c9 := by rw [← hX, hy]
    by_cases hp' : 128 * t.val ≤ p.val
    · exact scales_new m hf X e p hp' (by omega)
    · have hl := ((rdat m c).finds_of_pos (w := 8) (t := t) rfl (by omega) Y).mp hY
      have hN : t.val < 14 := t.isLt
      have hl' := hl.resolve_left fun hfl => by
        have h13 := (flush0_8 _).mp hfl
        have h13' : (t.val - 1) % 14 = 13 := h13
        omega
      rw [e, scales_old t _ _ p (by omega), hx]
      exact ih _ (by show t.val - 1 = n; omega) Y hl' p (by omega)

variable {m} in
/-- The arrays after the run. -/
theorem final {r : PUnit × MemSt nD τ sig (Elt Ideal)} (h : RDat.FramePost (cfgs 0) (fun c => rdat m c) (V m) r) (c : Dev nD) :
    r.2.mem ((c.tc : Thread nD τ).loc main_v4_3) = codesOf (argX m c)
      ∧ r.2.mem ((c.tc : Thread nD τ).loc main_v4_4) = scalesOf (argX m c) := by
  obtain ⟨after, hL, hA⟩ := h.exists_exact c
  refine ⟨(hA 7).trans ?_, (hA 8).trans ?_⟩
  · refine ((rdat m c).withAfter after).arrAt_eq_of_covers 7 _ (by decide +kernel) fun t hf y => ?_
    obtain ⟨k, p, rfl⟩ : ∃ k p, y = (ix2 k p : S160x128.Idx) := ⟨y 0, y 1, eq_ix2 y⟩
    exact (leaves_codes m (hL 7 t hf) k p).trans (congrArg (codesOf (argX m c)) (emb_codes t k p)).symm
  · refine ((rdat m c).withAfter after).arrAt_eq_of_covers 8 _ (by decide +kernel) fun t hf y => ?_
    obtain ⟨p, rfl⟩ : ∃ p, y = (ix1 p : S1792.Idx) := ⟨y 0, eq_ix1 y⟩
    have h13 : t.val % 14 = 13 := (flush0_8 t).mp hf
    have hp : p.val < 1792 := p.isLt
    exact (leaves_scales m t.val t rfl _ (hL 8 t hf) p (by omega)).trans (congrArg (scalesOf (argX m c)) (emb_scales t p)).symm

end Cert.KernelIdeal.Rows

end
-- ==== Proof.GramIdeal.lean ====
/-
  The gram matrices of the body, entry by entry: each is the sum over the 160 channels of the products of the codes of
  two features.
-/
module

public import proofs.«01_k».proof.Proof.RunIdeal
public import Idealize.ShloMosaic.Lib.Pipeline.Value
public import Idealize.ShloMosaic.Lib.ValueIdxCore
public import Idealize.ShloMosaic.Lib.BitcastPair
public import Idealize.ShloMosaic.Lib.MatmulPlain
public import Idealize.ShloMosaic.Lib.Pointwise.ElementwiseCore

@[expose] public section

set_option maxRecDepth 16384
set_option backward.isDefEq.respectTransparency.types false

noncomputable section

namespace Cert.KernelIdeal.Rows

open Cert Cert.Proof Cert.KernelIdeal Cert.KernelIdeal.Gen Cert.KernelIdeal.Run
open Idealize.ShloMosaic
open Idealize.ShloMosaic.TcCoe Idealize.ShloMosaic.ValueIdx

/-- What a code byte stands for. -/
abbrev decode (b : BitVec 8) : EReal := Ideal.ofBits .fp8e4m3 b

theorem decode_zero : decode 0#8 = 0 := by simp [decode, Ideal.ofBits, Ideal.e4m3fn]

/-- Words read at eight bits: row `i` of a lane is byte `i % 4` of row `i / 4`. -/
theorem byte_of_word {R r n : Nat} (x : (⟨2, ![r, n]⟩ : Shape).Idx → BitVec 32)
    (h : (⟨2, ![r, n]⟩ : Shape).Bitcasts 32 ⟨2, ![R, n]⟩ 8) (i : Fin R) (l : Fin n) (a : Fin r) (ha : a.val = i.val / 4) :
    bitcast ⟨2, ![R, n]⟩ 8 x h (ix2 i l) = (x (ix2 a l)).extractLsb' (8 * (i.val % 4)) 8 := by
  apply BitVec.eq_of_getLsbD_eq
  intro q hq
  rw [bitcast_getLsbD x h _ q hq (by decide), BitVec.getLsbD_extractLsb']
  have hrow : Shape.row (s := ⟨2, ![R, n]⟩) (ix2 i l) = i.val := rfl
  have eq : ((Shape.row (s := ⟨2, ![R, n]⟩) (ix2 i l)) * 8 + q) % 32 = 8 * (i.val % 4) + q := by rw [hrow]; omega
  have ep : ((Shape.row (s := ⟨2, ![R, n]⟩) (ix2 i l)) * 8 + q) / 32 = a.val := by rw [hrow]; omega
  rw [eq]
  have hi : ∀ hp, h.srcIdx (ix2 i l) (((Shape.row (s := ⟨2, ![R, n]⟩) (ix2 i l)) * 8 + q) / 32) hp = ix2 a l := by
    intro hp
    funext c
    match c with
    | ⟨0, _⟩ => exact Fin.ext ((h.srcIdx_row _ _ _ ⟨0, Nat.zero_lt_two⟩ rfl).trans ep)
    | ⟨1, _⟩ => exact Fin.ext (h.srcIdx_other _ _ _ ⟨1, Nat.one_lt_two⟩ (by show ¬ 1 + 2 = 2; omega))
  rw [hi]
  simp [hq]

/-- The byte of a packed word. -/
theorem byte_of_four (b0 b1 b2 b3 : BitVec 8) :
    (b3 ++ b2 ++ b1 ++ b0).extractLsb' 0 8 = b0 ∧ (b3 ++ b2 ++ b1 ++ b0).extractLsb' 8 8 = b1
      ∧ (b3 ++ b2 ++ b1 ++ b0).extractLsb' 16 8 = b2 ∧ (b3 ++ b2 ++ b1 ++ b0).extractLsb' 24 8 = b3 := by
  refine ⟨?_, ?_, ?_, ?_⟩ <;>
  · apply BitVec.eq_of_getLsbD_eq
    intro q hq
    simp only [BitVec.getLsbD_extractLsb', BitVec.getLsbD_append, hq, decide_true, Bool.true_and]
    interval_cases q <;> rfl

theorem narrow (b : BitVec 8) : (b.signExtend 32).setWidth 8 = b := by
  apply BitVec.eq_of_getLsbD_eq
  intro q hq
  rw [BitVec.getLsbD_setWidth, BitVec.getLsbD_signExtend]
  simp [hq, show q < 32 by omega]

variable (x1 : S71x160x128.Idx → BitVec 8) (x4 : S160x128.Idx → BitVec 8)

/-- The word of a group holds the bytes of its four features. -/
theorem word_byte (f : ℕ) (p : S160x128.Idx) :
    (wordsOf x1 x4 (f / 4) p).extractLsb' (8 * (f % 4)) 8 = bytes x1 x4 f p := by
  have hw : wordsOf x1 x4 (f / 4) p = bytes x1 x4 (4 * (f / 4) + 3) p ++ bytes x1 x4 (4 * (f / 4) + 2) p
      ++ bytes x1 x4 (4 * (f / 4) + 1) p ++ bytes x1 x4 (4 * (f / 4)) p := by
    unfold wordsOf
    rw [packElementwiseInt8_apply]
    simp only [extsi_apply, narrow]
  rw [hw]
  obtain ⟨h0, h1, h2, h3⟩ := byte_of_four (bytes x1 x4 (4 * (f / 4)) p) (bytes x1 x4 (4 * (f / 4) + 1) p)
    (bytes x1 x4 (4 * (f / 4) + 2) p) (bytes x1 x4 (4 * (f / 4) + 3) p)
  have hlt : f % 4 < 4 := Nat.mod_lt _ (by omega)
  have hf : f % 4 = 0 ∨ f % 4 = 1 ∨ f % 4 = 2 ∨ f % 4 = 3 := by omega
  rcases hf with e | e | e | e
  · rw [e]; exact h0.trans (by congr 1; omega)
  · rw [e]; exact h1.trans (by congr 1; omega)
  · rw [e]; exact h2.trans (by congr 1; omega)
  · rw [e]; exact h3.trans (by congr 1; omega)

theorem words0_apply (g : ℕ) (b l : Fin 128) : words0 x1 x4 g (ix2 b l) = wordsOf x1 x4 g (ix2 ⟨l.val, by omega⟩ b) := by
  unfold words0
  rw [shapeCast_self]
  refine (transpose_apply _ _ transposes_S128x128_p1_0_S128x128 (ix2 b l) (ix2 l b)
    (fun c => by match c with | ⟨0, _⟩ => rfl | ⟨1, _⟩ => rfl)).trans ?_
  refine extractStridedSlice_apply _ _ _ _ _ fun a => ?_
  match a with
  | ⟨0, _⟩ => show l.val = 0 + l.val; omega
  | ⟨1, _⟩ => show b.val = 0 + b.val; omega

theorem words1_left (g : ℕ) (b l : Fin 128) (hl : l.val < 32) :
    words1 x1 x4 g (ix2 b l) = wordsOf x1 x4 g (ix2 ⟨128 + l.val, by omega⟩ b) := by
  unfold words1
  rw [shapeCast_self]
  refine (transpose_apply _ _ transposes_S128x128_p1_0_S128x128 (ix2 b l) (ix2 l b)
    (fun c => by match c with | ⟨0, _⟩ => rfl | ⟨1, _⟩ => rfl)).trans ?_
  refine (concatenate_pair_apply_left (s₁ := S32x128) (s₂ := S96x128) (t := S128x128) 0 _ _ _ (ix2 l b) rfl (ix2 (⟨l.val, hl⟩ : Fin 32) b)
    (fun c => by match c with | ⟨0, _⟩ => rfl | ⟨1, _⟩ => rfl)).trans ?_
  refine extractStridedSlice_apply _ _ _ _ _ fun a => ?_
  match a with
  | ⟨0, _⟩ => rfl
  | ⟨1, _⟩ => show b.val = 0 + b.val; omega

theorem words1_right (g : ℕ) (b l : Fin 128) (hl : 32 ≤ l.val) : words1 x1 x4 g (ix2 b l) = 0#32 := by
  unfold words1
  rw [shapeCast_self]
  refine (transpose_apply _ _ transposes_S128x128_p1_0_S128x128 (ix2 b l) (ix2 l b)
    (fun c => by match c with | ⟨0, _⟩ => rfl | ⟨1, _⟩ => rfl)).trans ?_
  exact concatenate_pair_apply_right (s₁ := S32x128) (s₂ := S96x128) (t := S128x128) 0 _ _ _ (ix2 l b) rfl rfl
    (ix2 (⟨l.val - 32, by omega⟩ : Fin 96) b)
    (fun c hc => by match c with | ⟨0, _⟩ => exact absurd rfl hc | ⟨1, _⟩ => rfl)
    (by show l.val - 32 + 32 = l.val; omega)

/-- The left factor of matrix `b`: the 24 rows of words of both buffers, read as codes, side by side. -/
def codesAt (W0 W1 : S2312x128.Idx → BitVec 32) (b : ℕ) : FVec Ideal S96x256 .fp8e4m3 :=
  concatenate S96x256 1
    [⟨S96x128, bitcastToFloat .fp8e4m3 (bitcast S96x128 8 (fun j => W0 ((rowsAt b).idx j)) bitcasts_S24x128_w32_S96x128_w8)⟩,
     ⟨S96x128, bitcastToFloat .fp8e4m3 (bitcast S96x128 8 (fun j => W1 ((rowsAt b).idx j)) bitcasts_S24x128_w32_S96x128_w8)⟩]
    concatenates_S96x128_S96x128_S96x256_d1

theorem gram_sum (W0 W1 : S2312x128.Idx → BitVec 32) (b : ℕ) (i j : Fin 96) :
    gram (F := Ideal) W0 W1 b (ix2 i j) = ∑ k : Fin 256, codesAt W0 W1 b (ix2 i k) * codesAt W0 W1 b (ix2 j k) := by
  have h := Ideal.matmul_transposedRhs_apply (M := 96) (K := 256) (N := 96) none (codesAt W0 W1 b) (codesAt W0 W1 b)
    (constant S96x96 .f32 0x00000000#32) i j
  have hz : (constant S96x96 .f32 0x00000000#32 : FVec Ideal S96x96 .f32) (ix2 i j) = 0 := Ideal.ofBits_zero_f32
  rw [hz, zero_add] at h
  exact h

variable {x1 x4} {W0 W1 : S2312x128.Idx → BitVec 32}

/-- The 160 codes of a feature, then zeros. -/
theorem codesAt_left (h0 : Packed (words0 x1 x4) 18 W0) (b : Fin 128) (f : Fin 96) (hf : f.val < 72) (k : Fin 256) (hk : k.val < 128) :
    codesAt W0 W1 b.val (ix2 f k) = decode (bytes x1 x4 f.val (ix2 ⟨k.val, by omega⟩ b)) := by
  unfold codesAt
  refine (concatenate_pair_apply_left (s₁ := S96x128) (s₂ := S96x128) (t := S96x256) 1 _ _ _ (ix2 f k) rfl (ix2 f (⟨k.val, hk⟩ : Fin 128))
    (fun c => by match c with | ⟨0, _⟩ => rfl | ⟨1, _⟩ => rfl)).trans ?_
  refine congrArg decode ?_
  refine (byte_of_word _ bitcasts_S24x128_w32_S96x128_w8 f ⟨k.val, hk⟩ ⟨f.val / 4, by omega⟩ rfl).trans ?_
  rw [h0 (f.val / 4) (by omega) _ (ix2 b (⟨k.val, hk⟩ : Fin 128)) (by
      show 18 * (b.val % 128) + 1 * (f.val / 4) = 18 * b.val + f.val / 4
      omega) (by show 0 + 1 * k.val = k.val; omega), words0_apply]
  exact word_byte x1 x4 f.val _

theorem codesAt_mid (h1 : Packed (words1 x1 x4) 18 W1) (b : Fin 128) (f : Fin 96) (hf : f.val < 72) (k : Fin 256) (hk : 128 ≤ k.val) (hk' : k.val < 160) :
    codesAt W0 W1 b.val (ix2 f k) = decode (bytes x1 x4 f.val (ix2 ⟨k.val, by omega⟩ b)) := by
  unfold codesAt
  refine (concatenate_pair_apply_right (s₁ := S96x128) (s₂ := S96x128) (t := S96x256) 1 _ _ _ (ix2 f k) rfl rfl (ix2 f (⟨k.val - 128, by omega⟩ : Fin 128))
    (fun c hc => by match c with | ⟨0, _⟩ => rfl | ⟨1, _⟩ => exact absurd rfl hc)
    (by show k.val - 128 + 128 = k.val; omega)).trans ?_
  refine congrArg decode ?_
  refine (byte_of_word _ bitcasts_S24x128_w32_S96x128_w8 f ⟨k.val - 128, by omega⟩ ⟨f.val / 4, by omega⟩ rfl).trans ?_
  rw [h1 (f.val / 4) (by omega) _ (ix2 b (⟨k.val - 128, by omega⟩ : Fin 128)) (by
      show 18 * (b.val % 128) + 1 * (f.val / 4) = 18 * b.val + f.val / 4
      omega) (by show 0 + 1 * (k.val - 128) = k.val - 128; omega), words1_left _ _ _ _ _ (by show k.val - 128 < 32; omega)]
  refine (word_byte x1 x4 f.val _).trans (congrArg (bytes x1 x4 f.val) ?_)
  exact congrArg (fun q : Fin 160 => (ix2 q b : S160x128.Idx)) (Fin.ext (by show 128 + (k.val - 128) = k.val; omega))

theorem codesAt_right (h1 : Packed (words1 x1 x4) 18 W1) (b : Fin 128) (f : Fin 96) (hf : f.val < 72) (k : Fin 256) (hk : 160 ≤ k.val) :
    codesAt W0 W1 b.val (ix2 f k) = 0 := by
  unfold codesAt
  refine (concatenate_pair_apply_right (s₁ := S96x128) (s₂ := S96x128) (t := S96x256) 1 _ _ _ (ix2 f k) rfl rfl (ix2 f (⟨k.val - 128, by omega⟩ : Fin 128))
    (fun c hc => by match c with | ⟨0, _⟩ => rfl | ⟨1, _⟩ => exact absurd rfl hc)
    (by show k.val - 128 + 128 = k.val; omega)).trans ?_
  refine Eq.trans (congrArg decode ?_) decode_zero
  refine (byte_of_word _ bitcasts_S24x128_w32_S96x128_w8 f ⟨k.val - 128, by omega⟩ ⟨f.val / 4, by omega⟩ rfl).trans ?_
  rw [h1 (f.val / 4) (by omega) _ (ix2 b (⟨k.val - 128, by omega⟩ : Fin 128)) (by
      show 18 * (b.val % 128) + 1 * (f.val / 4) = 18 * b.val + f.val / 4
      omega) (by show 0 + 1 * (k.val - 128) = k.val - 128; omega), words1_right _ _ _ _ _ (by show 32 ≤ k.val - 128; omega)]
  apply BitVec.eq_of_getLsbD_eq
  intro q hq
  simp

theorem codesAt_apply (h0 : Packed (words0 x1 x4) 18 W0) (h1 : Packed (words1 x1 x4) 18 W1) (b : Fin 128) (f : Fin 96) (hf : f.val < 72)
    (k : Fin 160) : codesAt W0 W1 b.val (ix2 f (Fin.castAdd 96 k : Fin (160 + 96))) = decode (bytes x1 x4 f.val (ix2 k b)) := by
  by_cases hk : k.val < 128
  · exact codesAt_left h0 b f hf _ hk
  · exact codesAt_mid h1 b f hf _ (by show 128 ≤ k.val; omega) k.isLt

/-- An entry of a gram matrix. -/
theorem gram_apply (h0 : Packed (words0 x1 x4) 18 W0) (h1 : Packed (words1 x1 x4) 18 W1) (b : Fin 128) (i j : Fin 96)
    (hi : i.val < 72) (hj : j.val < 72) :
    gram (F := Ideal) W0 W1 b.val (ix2 i j)
      = ∑ k : Fin 160, decode (bytes x1 x4 i.val (ix2 k b)) * decode (bytes x1 x4 j.val (ix2 k b)) := by
  rw [gram_sum]
  refine (Fin.sum_univ_add (a := 160) (b := 96) fun k => codesAt W0 W1 b.val (ix2 i k) * codesAt W0 W1 b.val (ix2 j k)).trans ?_
  rw [Finset.sum_congr rfl fun k _ => by rw [codesAt_apply h0 h1 b i hi k, codesAt_apply h0 h1 b j hj k]]
  rw [Finset.sum_eq_zero (s := (Finset.univ : Finset (Fin 96))) fun k _ => by
    rw [codesAt_right h1 b i hi _ (by show 160 ≤ 160 + k.val; omega), zero_mul]]
  exact add_zero _

end Cert.KernelIdeal.Rows

end
-- ==== Proof.InterIdeal.lean ====
/-
  What the body leaves in the window of x_inter: the products of feature 0 with every other feature, scaled.
-/
module

public import proofs.«01_k».proof.Proof.ArraysIdeal
public import proofs.«01_k».proof.Proof.GramIdeal

@[expose] public section

set_option maxRecDepth 16384
set_option backward.isDefEq.respectTransparency.types false

noncomputable section

namespace Cert.KernelIdeal.Rows

open Cert Cert.Proof Cert.KernelIdeal Cert.KernelIdeal.Gen Cert.KernelIdeal.Run Cert.Scale
open Idealize.ShloMosaic
open Idealize.ShloMosaic.TcCoe Idealize.ShloMosaic.ValueIdx Idealize.ShloMosaic.StableHlo
open Idealize.ShloMosaic.Pipeline (RDat)

/-! ### The scales -/

/-- The scale of x, as the first row of the scales. -/
theorem scaleRow_eq (v : Vec Ideal S160x128 .bf16) (p : Fin 128) : xScaleRow v (ix2 (0 : Fin 1) p) = scaleR (lane v p) := by
  rw [← scale_eq v p]
  unfold xScaleRow k0_pay15 k0_pay14
  rw [shapeCast_self]
  exact (shapeCast_apply (k0_pay12 (k0_pay5 v) _ _ _) shapeCasts_S1x128_S128 (ix1 p) (ix2 (0 : Fin 1) p) (by
    refine (Shape.rowMajor_val_two (d := ![1, 128]) (ix2 (0 : Fin 1) p)).trans ((Shape.rowMajor_val_one (d := ![128]) (ix1 p)).trans ?_).symm
    show p.val = 0 * 128 + p.val
    omega)).symm

theorem emb_later (f : Fin 71) (p : Fin 128) :
    (Rect.unit (s := S72x128) ![1, 0] S71x128.size inb_S72x128_S71x128_1_0).emb (ix2 f p : S71x128.Idx)
      = (ix2 (⟨f.val + 1, by omega⟩ : Fin 72) p : S72x128.Idx) := by
  funext a; apply Fin.ext
  match a with
  | ⟨0, _⟩ => show 1 + 1 * f.val = f.val + 1; omega
  | ⟨1, _⟩ => show 0 + 1 * p.val = p.val; omega

theorem emb_first (p : Fin 128) :
    (Rect.unit (s := S72x128) ![0, 0] S1x128.size inb_S72x128_S1x128_0_0).emb (ix2 (0 : Fin 1) p : S1x128.Idx)
      = (ix2 (0 : Fin 72) p : S72x128.Idx) := by
  funext a; apply Fin.ext
  match a with
  | ⟨0, _⟩ => rfl
  | ⟨1, _⟩ => show 0 + 1 * p.val = p.val; omega

theorem emb_scaleBlock (f : Fin 71) (p : Fin 128) :
    (Rect.unit (s := S71x128) ![0, 0] S71x128.size inb_S71x128_S71x128_0_0).emb (ix2 f p : S71x128.Idx) = (ix2 f p : S71x128.Idx) := by
  funext a; apply Fin.ext
  match a with
  | ⟨0, _⟩ => show 0 + 1 * f.val = f.val; omega
  | ⟨1, _⟩ => show 0 + 1 * p.val = p.val; omega

theorem scales_later (x2 : S71x128.Idx → EReal) (x3 : S160x128.Idx → EReal) (x14 : S72x128.Idx → EReal) (f : Fin 71) (p : Fin 128) :
    scales (F := Ideal) x2 x3 x14 (ix2 (⟨f.val + 1, by omega⟩ : Fin 72) p) = x2 (ix2 f p) := by
  unfold scales
  rw [← emb_later, put_emb]
  unfold k0_pay17 k0_pay16
  dsimp only
  rw [shapeCast_self, shapeCast_self]
  exact congrArg x2 (emb_scaleBlock f p)

theorem scales_first (x2 : S71x128.Idx → EReal) (x3 : S160x128.Idx → EReal) (x14 : S72x128.Idx → EReal) (p : Fin 128) :
    scales (F := Ideal) x2 x3 x14 (ix2 (0 : Fin 72) p) = scaleR (lane (wholeX (F := Ideal) x3) p) := by
  unfold scales
  rw [put_of_ne, ← emb_first, put_emb, scaleRow_eq]
  intro t ht
  have h0 : 1 + 1 * (t 0).val = 0 := congrArg (fun i : S72x128.Idx => (i 0).val) ht
  omega

/-! ### The bytes -/

theorem bytes_first (x1 : S71x160x128.Idx → BitVec 8) (x4 : S160x128.Idx → BitVec 8) (k : Fin 160) (b : Fin 128) :
    bytes x1 x4 0 (ix2 k b) = x4 (ix2 k b) := by
  unfold bytes
  refine (shapeCast_apply _ shapeCasts_S160x128_S160x128 (ix2 k b) (ix2 k b) rfl).trans ?_
  exact congrArg x4 (emb_whole k b)

theorem bytes_later (x1 : S71x160x128.Idx → BitVec 8) (x4 : S160x128.Idx → BitVec 8) (f : Fin 71) (k : Fin 160) (b : Fin 128) :
    bytes x1 x4 (f.val + 1) (ix2 k b) = x1 (ix3 f k b) := by
  unfold bytes
  refine (shapeCast_apply _ shapeCasts_S1x160x128_S160x128 (ix2 k b) (ix3 (0 : Fin 1) k b) ?_).trans (congrArg x1 ?_)
  · refine (Shape.rowMajor_val_three (d := ![1, 160, 128]) (ix3 (0 : Fin 1) k b)).trans
      ((Shape.rowMajor_val_two (d := ![160, 128]) (ix2 k b)).trans ?_).symm
    show k.val * 128 + b.val = (0 * 160 + k.val) * 128 + b.val
    omega
  · funext a; apply Fin.ext
    match a with
    | ⟨0, _⟩ => show f.val % 71 + 1 * 0 = f.val; omega
    | ⟨1, _⟩ => show 0 + 1 * k.val = k.val; omega
    | ⟨2, _⟩ => show 0 + 1 * b.val = b.val; omega

/-! ### The products -/

theorem prodI_onto : ∀ f < 71, ∃ k < 71, prodI k = f + 1 := by decide
theorem prodJ_lt : ∀ k < 71, prodJ k < 9 := by decide
theorem prodR_lt : ∀ k < 71, prodR k < 8 := by decide

theorem slot_room : ∀ k < 71, 8 * slotS (prodJ k) + prodR k < 28 ∧ slotL (prodJ k) + prodI k ≤ 128 := by decide

/-- Entry `(prodI k, j)` of gram matrix `p`, where the slots keep it. -/
theorem slotted_apply {W0 W1 : S2312x128.Idx → BitVec 32} {T : S3584x128.Idx → EReal} (hT : Slotted (F := Ideal) (gram W0 W1) 1152 T)
    {k : ℕ} (hk : k < 71) (p : Fin 128) (i j : Fin 96) (hi : i.val = prodI k) (hj : j.val < prodI k) (d : S3584x128.Idx)
    (h0 : (d 0).val = 28 * p.val + 8 * slotS (prodJ k) + prodR k) (h1 : (d 1).val = slotL (prodJ k) + j.val) :
    T d = gram (F := Ideal) W0 W1 p.val (ix2 i j) := by
  have hJ := prodJ_lt k hk
  have hR := prodR_lt k hk
  have hI : prodI k = 8 * slotV (prodJ k) + prodR k := rfl
  have e0 : ((ix2 i j : S96x96.Idx) 0).val = i.val := rfl
  have e1 : ((ix2 i j : S96x96.Idx) 1).val = j.val := rfl
  have hp := p.isLt
  exact hT p.val (prodJ k) (by omega) hJ d (ix2 i j) (by omega) (by omega) (by omega) (by omega) (by omega)

/-- A product, once the two scales and the gram entry are known. -/
theorem prod_value {W0 W1 : S2312x128.Idx → BitVec 32} {T : S3584x128.Idx → EReal} {S : S72x128.Idx → EReal}
    (hT : Slotted (F := Ideal) (gram W0 W1) 1152 T) {k : ℕ} (hk : k < 71) (p : Fin 128) (i j : Fin 72) (hi : i.val = prodI k)
    (hj : j.val < i.val) {v : EReal} (hv : IsProd (F := Ideal) S T k j.val p.val v) :
    v = (S (ix2 i p) * S (ix2 j p)) * gram (F := Ideal) W0 W1 p.val (ix2 (⟨i.val, by omega⟩ : Fin 96) (⟨j.val, by omega⟩ : Fin 96)) := by
  obtain ⟨hr0, hr1⟩ := slot_room k hk
  have hp := p.isLt
  have h := hv (ix2 i p) (ix2 j p) (ix2 (⟨28 * p.val + 8 * slotS (prodJ k) + prodR k, by omega⟩ : Fin 3584)
    (⟨slotL (prodJ k) + j.val, by omega⟩ : Fin 128)) hi rfl rfl rfl rfl rfl
  rw [h, slotted_apply hT hk p (⟨i.val, by omega⟩ : Fin 96) (⟨j.val, by omega⟩ : Fin 96) hi (by show j.val < prodI k; omega) _ rfl rfl]
  rfl

end Cert.KernelIdeal.Rows

end
-- ==== Proof.ProductsIdeal.lean ====
/-
  The scale and the codes of a row of the products: as of x, the kernel's search gives the reference's scale.
-/
module

public import proofs.«01_k».proof.Proof.RowsIdeal
public import proofs.«01_k».proof.Proof.RunIdeal

@[expose] public section

set_option maxRecDepth 16384
set_option backward.isDefEq.respectTransparency.types false

noncomputable section

namespace Cert.KernelIdeal.Rows

open Cert Cert.Proof Cert.KernelIdeal Cert.KernelIdeal.Gen Cert.KernelIdeal.Run Cert.Scale
open Idealize.ShloMosaic Idealize.ShloMosaic.TcCoe Idealize.ShloMosaic.ValueIdx

theorem lift_long (j : S128.Idx) (k : Fin 2716) : (reduces_S2716x128_S128).lift j k = ix2 k (j 0) := by
  funext a; apply Fin.ext
  rw [Shape.Reduces.lift_val]
  match a with
  | ⟨0, _⟩ => rfl
  | ⟨1, _⟩ => rfl

/-- The greatest magnitude of a lane of the products. -/
abbrev long (v : Vec Ideal S2716x128 .f32) (j : Fin 128) : EReal := rowMax fun k : Fin 2716 => v (ix2 k j)

theorem longMax_eq (v : Vec Ideal S2716x128 .f32) (j : S128.Idx) :
    multiReduction (F := Ideal) .maximumf [0] S128 (absf (F := Ideal) (φ := .f32) v) 0xFF800000#32 reduces_S2716x128_S128 (.inl rfl) rfl j
      = long v (j 0) := by
  refine (Ideal.multiReduction_maximumf_single _ _ _ _ _ j).trans ?_
  unfold long rowMax
  refine Finset.fold_congr fun k _ => ?_
  show max (v ((reduces_S2716x128_S128).lift j k)) (-v ((reduces_S2716x128_S128).lift j k)) = _
  rw [lift_long]
  rfl

theorem long_eq (v : Vec Ideal S2716x128 .f32) (i : Fin 1) (j : Fin 128) : k0_pay1736 v (ix2 i j) = long v j * factor := by
  unfold k0_pay1736
  show shapeCast S1x128 _ shapeCasts_S128_S1x128 (ix2 i j) * factor = _
  rw [shapeCast_apply _ _ (ix2 i j) (ix1 j) (by
    refine (Shape.rowMajor_val_one (d := ![128]) _).trans ((Shape.rowMajor_val_two (d := ![1, 128]) (ix2 i j)).trans ?_).symm
    show i.val * 128 + j.val = j.val
    omega), longMax_eq]

theorem zField_steps (v : Vec Ideal S2716x128 .f32) : zField v = stepV (k0_pay1736 v) 8#32 (stepV (k0_pay1736 v) 16#32
    (stepV (k0_pay1736 v) 32#32 (stepV (k0_pay1736 v) 64#32 (stepV (k0_pay1736 v) 128#32 (broadcast S1x128 0#32))))) := rfl

theorem zExponent_steps (v : Vec Ideal S2716x128 .f32) : k0_pay1743 (k0_pay1736 v) (zField v) (zMask v) (zElse v)
    = k0_pay11 (k0_pay1736 v) (stepV (k0_pay1736 v) 1#32 (stepV (k0_pay1736 v) 2#32 (stepV (k0_pay1736 v) 4#32 (zField v))))
      (k0_pay9 (k0_pay1736 v)) k0_pay10 := rfl

theorem zExponent_eq (v : Vec Ideal S2716x128 .f32) (j : S1x128.Idx) : k0_pay1743 (k0_pay1736 v) (zField v) (zMask v) (zElse v) j
    = exponent (k0_pay1736 v j) (field (k0_pay1736 v j)) := by
  rw [zExponent_steps, exponent_eq, zField_steps]
  simp only [stepV_apply]
  rfl

/-- The scale of a lane of the products is the reference's scale of that row. -/
theorem zScale_eq (v : Vec Ideal S2716x128 .f32) (p : Fin 128) : zScale v (ix1 p) = scaleR (long v p) := by
  rw [← (agree (long v p) (rowMax_nonneg _ (0 : Fin 2716))).1, ← long_eq v 0 p]
  unfold scaleOf
  rw [← zExponent_eq v (ix2 (0 : Fin 1) p)]
  exact shapeCast_apply (fun j : S1x128.Idx => power (IntOp.addi 127#32 (k0_pay1743 (k0_pay1736 v) (zField v) (zMask v) (zElse v) j)))
    shapeCasts_S1x128_S128 (ix1 p) (ix2 (0 : Fin 1) p) (by
    refine (Shape.rowMajor_val_two (d := ![1, 128]) (ix2 (0 : Fin 1) p)).trans ((Shape.rowMajor_val_one (d := ![128]) (ix1 p)).trans ?_).symm
    show p.val = 0 * 128 + p.val
    omega)

/-- The codes of a lane of the products are the reference's codes of that row. -/
theorem zCodes_eq (v : Vec Ideal S2716x128 .f32) (k : Fin 2716) (p : Fin 128) :
    zCodes v (ix2 k p) = code (inverseR (long v p)) (v (ix2 k p)) := by
  rw [← (agree (long v p) (rowMax_nonneg _ (0 : Fin 2716))).2, ← long_eq v 0 p]
  unfold inverseOf
  rw [← zExponent_eq v (ix2 (0 : Fin 1) p)]
  exact congrArg (fun s => code s (v (ix2 k p)))
    (broadcastTo_apply _ broadcasts_S1x128_S2716x128 (ix2 k p) (ix2 (0 : Fin 1) p)
      (fun a => by match a with | ⟨0, _⟩ => rfl | ⟨1, _⟩ => rfl))

end Cert.KernelIdeal.Rows

end
-- ==== Proof.PairsIdeal.lean ====
/-
  What the kernel's run leaves in its five arrays.
-/
module

public import proofs.«01_k».proof.Proof.Pairs
public import proofs.«01_k».proof.Proof.InterIdeal
public import proofs.«01_k».proof.Proof.ProductsIdeal

@[expose] public section

set_option maxRecDepth 16384
set_option backward.isDefEq.respectTransparency.types false

noncomputable section

namespace Cert.KernelIdeal.Rows

open Cert Cert.Proof Cert.KernelIdeal Cert.KernelIdeal.Gen Cert.KernelIdeal.Run Cert.Scale Cert.Pairs
open Idealize.ShloMosaic
open Idealize.ShloMosaic.TcCoe Idealize.ShloMosaic.ValueIdx Idealize.ShloMosaic.StableHlo
open Idealize.ShloMosaic.Pipeline (RDat)

variable (m : (ℓ : Loc nD τ sig) → Buf (Elt Ideal) ℓ)

/-- The code bytes of the embeddings, their scales and the code bytes of x, as arguments on core `c`. -/
abbrev argE (c : Dev nD) : Vec Ideal S1792x71x160 .i8 := m ((c.tc : Thread nD τ).loc main_arg0)
abbrev argS (c : Dev nD) : Vec Ideal S1792x71 .f32 := m ((c.tc : Thread nD τ).loc main_arg1)
abbrev argB (c : Dev nD) : Vec Ideal S1792x160 .i8 := m ((c.tc : Thread nD τ).loc main_arg3)

theorem V_e (c : Dev nD) : V m c main_v0 = transpose S71x160x1792 [1, 2, 0] (argE m c) transposes_S1792x71x160_S71x160x1792_1_2_0 := by
  show StableHlo.after hostOps0 (fun b => m (c, b)) main_v0 = _
  unfold hostOps0
  after_results

theorem V_s (c : Dev nD) : V m c main_v1 = transpose S71x1792 [1, 0] (argS m c) transposes_S1792x71_S71x1792_1_0 := by
  show StableHlo.after hostOps0 (fun b => m (c, b)) main_v1 = _
  unfold hostOps0
  after_results

theorem V_b (c : Dev nD) : V m c main_v3 = transpose S160x1792 [1, 0] (argB m c) transposes_S1792x160_S160x1792_1_0 := by
  show StableHlo.after hostOps0 (fun b => m (c, b)) main_v3 = _
  unfold hostOps0
  after_results

theorem V_e_apply (c : Dev nD) (f : Fin 71) (k : Fin 160) (p : Fin 1792) : V m c main_v0 (ix3 f k p) = argE m c (ix3 p f k) := by
  rw [V_e]
  exact transpose_apply _ (argE m c) transposes_S1792x71x160_S71x160x1792_1_2_0 (ix3 f k p) (ix3 p f k)
    (fun b => by match b with | ⟨0, _⟩ => rfl | ⟨1, _⟩ => rfl | ⟨2, _⟩ => rfl)

theorem V_s_apply (c : Dev nD) (f : Fin 71) (p : Fin 1792) : V m c main_v1 (ix2 f p) = argS m c (ix2 p f) := by
  rw [V_s]
  exact transpose_apply _ (argS m c) transposes_S1792x71_S71x1792_1_0 (ix2 f p) (ix2 p f)
    (fun b => by match b with | ⟨0, _⟩ => rfl | ⟨1, _⟩ => rfl)

theorem V_b_apply (c : Dev nD) (k : Fin 160) (p : Fin 1792) : V m c main_v3 (ix2 k p) = argB m c (ix2 p k) := by
  rw [V_b]
  exact transpose_apply _ (argB m c) transposes_S1792x160_S160x1792_1_0 (ix2 k p) (ix2 p k)
    (fun b => by match b with | ⟨0, _⟩ => rfl | ⟨1, _⟩ => rfl)

theorem index_e : ∀ t : Fin cfg0.N, win0_0.index t (0 : Fin 3) = 0 ∧ win0_0.index t (1 : Fin 3) = 0 ∧ win0_0.index t (2 : Fin 3) = t.val :=
  (by decide +kernel : ∀ t : Fin grid0.N, _)
theorem index_s : ∀ t : Fin cfg0.N, win0_1.index t (0 : Fin 2) = 0 ∧ win0_1.index t (1 : Fin 2) = t.val :=
  (by decide +kernel : ∀ t : Fin grid0.N, _)
theorem index_b : ∀ t : Fin cfg0.N, win0_3.index t (0 : Fin 2) = 0 ∧ win0_3.index t (1 : Fin 2) = t.val :=
  (by decide +kernel : ∀ t : Fin grid0.N, _)
theorem index_out : ∀ t : Fin cfg0.N, win0_4.index t (0 : Fin 2) = 0 ∧ win0_4.index t (1 : Fin 2) = t.val :=
  (by decide +kernel : ∀ t : Fin grid0.N, _)
theorem index_outScales : ∀ t : Fin cfg0.N, win0_5.index t (0 : Fin 1) = 0 :=
  (by decide +kernel : ∀ t : Fin grid0.N, _)
theorem index_inter : ∀ t : Fin cfg0.N, win0_6.index t (0 : Fin 2) = 0 ∧ win0_6.index t (1 : Fin 2) = t.val :=
  (by decide +kernel : ∀ t : Fin grid0.N, _)

theorem emb_e (t : Fin cfg0.N) (f : Fin 71) (k : Fin 160) (p : Fin 128) :
    ((cfg0.win 0).blk t).view.emb (ix3 f k p : S71x160x128.Idx) = (ix3 f k (rowOf t p) : S71x160x1792.Idx) := by
  obtain ⟨e0, e1, e2⟩ := index_e t
  funext a; apply Fin.ext
  match a with
  | ⟨0, _⟩ => show win0_0.index t (0 : Fin 3) * 71 + 1 * f.val = f.val; omega
  | ⟨1, _⟩ => show win0_0.index t (1 : Fin 3) * 160 + 1 * k.val = k.val; omega
  | ⟨2, _⟩ => show win0_0.index t (2 : Fin 3) * 128 + 1 * p.val = 128 * t.val + p.val; omega

theorem emb_s (t : Fin cfg0.N) (f : Fin 71) (p : Fin 128) :
    ((cfg0.win 1).blk t).view.emb (ix2 f p : S71x128.Idx) = (ix2 f (rowOf t p) : S71x1792.Idx) := by
  obtain ⟨e0, e1⟩ := index_s t
  funext a; apply Fin.ext
  match a with
  | ⟨0, _⟩ => show win0_1.index t (0 : Fin 2) * 71 + 1 * f.val = f.val; omega
  | ⟨1, _⟩ => show win0_1.index t (1 : Fin 2) * 128 + 1 * p.val = 128 * t.val + p.val; omega

theorem emb_b (t : Fin cfg0.N) (k : Fin 160) (p : Fin 128) :
    ((cfg0.win 3).blk t).view.emb (ix2 k p : S160x128.Idx) = (ix2 k (rowOf t p) : S160x1792.Idx) := by
  obtain ⟨e0, e1⟩ := index_b t
  funext a; apply Fin.ext
  match a with
  | ⟨0, _⟩ => show win0_3.index t (0 : Fin 2) * 160 + 1 * k.val = k.val; omega
  | ⟨1, _⟩ => show win0_3.index t (1 : Fin 2) * 128 + 1 * p.val = 128 * t.val + p.val; omega

theorem emb_out (t : Fin cfg0.N) (q : Fin 2716) (p : Fin 128) :
    ((cfg0.win 4).blk t).view.emb (ix2 q p : S2716x128.Idx) = (ix2 q (rowOf t p) : S2716x1792.Idx) := by
  obtain ⟨e0, e1⟩ := index_out t
  funext a; apply Fin.ext
  match a with
  | ⟨0, _⟩ => show win0_4.index t (0 : Fin 2) * 2716 + 1 * q.val = q.val; omega
  | ⟨1, _⟩ => show win0_4.index t (1 : Fin 2) * 128 + 1 * p.val = 128 * t.val + p.val; omega

theorem emb_outScales (t : Fin cfg0.N) (p : Fin 1792) :
    ((cfg0.win 5).blk t).view.emb (ix1 p : S1792.Idx) = (ix1 p : S1792.Idx) := by
  have e0 := index_outScales t
  funext a; apply Fin.ext
  match a with
  | ⟨0, _⟩ => show win0_5.index t (0 : Fin 1) * 1792 + 1 * p.val = p.val; omega

theorem emb_inter (t : Fin cfg0.N) (f : Fin 71) (p : Fin 128) :
    ((cfg0.win 6).blk t).view.emb (ix2 f p : S71x128.Idx) = (ix2 f (rowOf t p) : S71x1792.Idx) := by
  obtain ⟨e0, e1⟩ := index_inter t
  funext a; apply Fin.ext
  match a with
  | ⟨0, _⟩ => show win0_6.index t (0 : Fin 2) * 71 + 1 * f.val = f.val; omega
  | ⟨1, _⟩ => show win0_6.index t (1 : Fin 2) * 128 + 1 * p.val = 128 * t.val + p.val; omega

theorem emb_long (q : Fin 2716) (p : Fin 128) :
    (Rect.unit (s := S2716x128) ![0, 0] S2716x128.size inb_S2716x128_S2716x128_0_0).emb (ix2 q p : S2716x128.Idx) = (ix2 q p : S2716x128.Idx) := by
  funext a; apply Fin.ext
  match a with
  | ⟨0, _⟩ => show 0 + 1 * q.val = q.val; omega
  | ⟨1, _⟩ => show 0 + 1 * p.val = p.val; omega

/-! ### What the body reads at point `t` -/

theorem found_e {c : Dev nD} {t : Fin cfg0.N} {x : St (Elt Ideal)} (h : Found m c t x) (f : Fin 71) (k : Fin 160) (p : Fin 128) :
    x.c1 (ix3 f k p) = argE m c (ix3 (rowOf t p) f k) := by
  obtain ⟨⟨d, hd⟩, -, -, -⟩ := h
  have e : x.c1 = iblk m c 0 t := hd
  rw [e]
  have e'' : iblk m c 0 t (ix3 f k p : S71x160x128.Idx) = V m c main_v0 (ix3 f k (rowOf t p)) := congrArg (V m c main_v0) (emb_e t f k p)
  exact e''.trans (V_e_apply m c f k (rowOf t p))

theorem found_s {c : Dev nD} {t : Fin cfg0.N} {x : St (Elt Ideal)} (h : Found m c t x) (f : Fin 71) (p : Fin 128) :
    x.c2 (ix2 f p) = argS m c (ix2 (rowOf t p) f) := by
  obtain ⟨-, ⟨d, hd⟩, -, -⟩ := h
  have e : x.c2 = iblk m c 1 t := hd
  rw [e]
  have e'' : iblk m c 1 t (ix2 f p : S71x128.Idx) = V m c main_v1 (ix2 f (rowOf t p)) := congrArg (V m c main_v1) (emb_s t f p)
  exact e''.trans (V_s_apply m c f (rowOf t p))

theorem found_b {c : Dev nD} {t : Fin cfg0.N} {x : St (Elt Ideal)} (h : Found m c t x) (k : Fin 160) (p : Fin 128) :
    x.c4 (ix2 k p) = argB m c (ix2 (rowOf t p) k) := by
  obtain ⟨-, -, -, ⟨d, hd⟩⟩ := h
  have e : x.c4 = iblk m c 3 t := hd
  rw [e]
  have e'' : iblk m c 3 t (ix2 k p : S160x128.Idx) = V m c main_v3 (ix2 k (rowOf t p)) := congrArg (V m c main_v3) (emb_b t k p)
  exact e''.trans (V_b_apply m c k (rowOf t p))

theorem codes_at {c : Dev nD} {t : Fin cfg0.N} {x : St (Elt Ideal)} (h : Found m c t x) (k : Fin 160) (p : Fin 128) :
    ∀ f : ℕ, f < 72 → decode (bytes x.c1 x.c4 f (ix2 k p)) = codeOf (argE m c) (argB m c) (rowOf t p) f k
  | 0, _ => congrArg decode ((bytes_first x.c1 x.c4 k p).trans (found_b m h k p))
  | f + 1, hf => by
    have hf' : f < 71 := by omega
    have e : codeOf (argE m c) (argB m c) (rowOf t p) (f + 1) k = decode (argE m c (ix3 (rowOf t p) ⟨f, hf'⟩ k)) := dif_pos hf'
    rw [e]
    exact congrArg decode ((bytes_later x.c1 x.c4 ⟨f, hf'⟩ k p).trans (found_e m h ⟨f, hf'⟩ k p))

theorem scales_at {c : Dev nD} {t : Fin cfg0.N} {x : St (Elt Ideal)} (h : Found m c t x) (p : Fin 128) :
    ∀ (f : ℕ) (hf : f < 72), scales x.c2 x.c3 x.c14 (ix2 (⟨f, hf⟩ : Fin 72) p) = scaleAt (argS m c) (argX m c) (rowOf t p) f
  | 0, _ => (scales_first x.c2 x.c3 x.c14 p).trans (congrArg scaleR (found_lane m h p))
  | f + 1, hf => by
    have hf' : f < 71 := by omega
    have e : scaleAt (argS m c) (argX m c) (rowOf t p) (f + 1) = argS m c (ix2 (rowOf t p) ⟨f, hf'⟩) := dif_pos hf'
    rw [e]
    exact (scales_later x.c2 x.c3 x.c14 ⟨f, hf'⟩ p).trans (found_s m h ⟨f, hf'⟩ p)

/-- The products on core `c`. -/
abbrev pairAt (c : Dev nD) : Fin 1792 → ℕ → ℕ → EReal := pairOf (argE m c) (argS m c) (argX m c) (argB m c)

/-- A product of the body is the product of that row. -/
theorem product_eq {c : Dev nD} {t : Fin cfg0.N} {x : St (Elt Ideal)} (h : Found m c t x) {W0 W1 : S2312x128.Idx → BitVec 32}
    {T : S3584x128.Idx → EReal} (h0 : Packed (words0 x.c1 x.c4) 18 W0) (h1 : Packed (words1 x.c1 x.c4) 18 W1)
    (hT : Slotted (F := Ideal) (gram W0 W1) 1152 T) {k : ℕ} (hk : k < 71) (p : Fin 128) {i j : ℕ} (hi : i = prodI k) (hij : j < i)
    (hi' : i < 72) {v : EReal} (hv : IsProd (F := Ideal) (scales x.c2 x.c3 x.c14) T k j p.val v) :
    v = pairAt m c (rowOf t p) i j := by
  have e := prod_value hT hk p (⟨i, hi'⟩ : Fin 72) (⟨j, by omega⟩ : Fin 72) hi hij hv
  rw [e, scales_at m h p i hi', scales_at m h p j (by omega),
    gram_apply h0 h1 p (⟨i, by omega⟩ : Fin 96) (⟨j, by omega⟩ : Fin 96) hi' (by show j < 72; omega)]
  unfold pairAt pairOf
  refine congrArg _ (Finset.sum_congr rfl fun k _ => ?_)
  rw [codes_at m h k p i hi', codes_at m h k p j (by omega)]

/-- A lane of the products is the row of x and its products. -/
theorem lane_row {c : Dev nD} {t : Fin cfg0.N} {x : St (Elt Ideal)} (h : Found m c t x) {W0 W1 : S2312x128.Idx → BitVec 32}
    {T : S3584x128.Idx → EReal} {Z : S2716x128.Idx → EReal} (h0 : Packed (words0 x.c1 x.c4) 18 W0)
    (h1 : Packed (words1 x.c1 x.c4) 18 W1) (hT : Slotted (F := Ideal) (gram W0 W1) 1152 T)
    (hZ : Multiplied (F := Ideal) (scales x.c2 x.c3 x.c14) T (k0_pay18 (k0_pay4 (wholeX x.c3))) 71 Z) (p : Fin 128) :
    (fun q : Fin 2716 => wholeZ (F := Ideal) Z (ix2 q p)) = row (argE m c) (argS m c) (argX m c) (argB m c) (rowOf t p) := by
  refine row_unique _ _ _ _ _ _ (fun k q hq => ?_) (fun i j q hi hij hq => ?_)
  · have e : wholeZ (F := Ideal) Z (ix2 q p) = Z (ix2 q p) := congrArg Z (emb_long q p)
    rw [e]
    refine (hZ.1 (ix2 q p) (ix2 k p) hq rfl).trans ?_
    have e' : k0_pay18 (k0_pay4 (wholeX x.c3)) = wholeX x.c3 := by
      rw [widened]
      exact shapeCast_self _ _
    rw [e']
    exact found_x m h k p
  · have e : wholeZ (F := Ideal) Z (ix2 q p) = Z (ix2 q p) := congrArg Z (emb_long q p)
    rw [e]
    obtain ⟨k, hk, hki⟩ := prodI_onto (i - 1) (by omega)
    have hki' : i = prodI k := by omega
    refine product_eq m h h0 h1 hT hk p hki' hij hi (hZ.2 k hk j (by omega) (ix2 q p) ?_)
    rw [← hki']
    exact hq

/-- The row on core `c`. -/
abbrev rowAt (c : Dev nD) : Fin 1792 → Fin 2716 → EReal := row (argE m c) (argS m c) (argX m c) (argB m c)

/-- What any point leaves in the window of the codes of the products. -/
theorem leaves_out {c : Dev nD} {t : Fin cfg0.N} {X : S2716x128.Idx → EReal} (h : (rdat m c).Leaves 4 t X) (q : Fin 2716) (p : Fin 128) :
    X (ix2 q p) = outCodes (argE m c) (argS m c) (argX m c) (argB m c) (ix2 q (rowOf t p)) := by
  obtain ⟨Y, -, x, y, hf, ⟨_, _, _, Z, _, h0, h1, hT, hZ, -, hy⟩, -, hX⟩ := h
  have e : X = put (Rect.unit (s := S2716x128) ![0, 0] S2716x128.size inb_S2716x128_S2716x128_0_0) (zCodes (F := Ideal) (wholeZ Z)) x.c5 := by
    rw [← hX, hy]
  have e1 := put_emb (Rect.unit (s := S2716x128) ![0, 0] S2716x128.size inb_S2716x128_S2716x128_0_0) (zCodes (F := Ideal) (wholeZ Z)) x.c5 (ix2 q p : S2716x128.Idx)
  rw [emb_long] at e1
  rw [e]
  refine e1.trans ((zCodes_eq (wholeZ Z) q p).trans ?_)
  have er := lane_row m hf h0 h1 hT hZ p
  have eq : wholeZ (F := Ideal) Z (ix2 q p) = rowAt m c (rowOf t p) q := congrFun er q
  have el : long (wholeZ (F := Ideal) Z) p = rowMax (rowAt m c (rowOf t p)) := congrArg rowMax er
  rw [el, eq]
  rfl

/-- What any point leaves in the window of the products with feature 0. -/
theorem leaves_inter {c : Dev nD} {t : Fin cfg0.N} {X : S71x128.Idx → EReal} (h : (rdat m c).Leaves 6 t X) (f : Fin 71) (p : Fin 128) :
    X (ix2 f p) = inter (argE m c) (argS m c) (argX m c) (argB m c) (ix2 f (rowOf t p)) := by
  obtain ⟨Y, -, x, y, hf, ⟨_, _, _, _, x7, h0, h1, hT, -, hC, hy⟩, -, hX⟩ := h
  have e : X = x7 := by rw [← hX, hy]
  rw [e]
  obtain ⟨k, hk, hki⟩ := prodI_onto f.val f.isLt
  have hf' := f.isLt
  exact product_eq m hf h0 h1 hT hk p (i := f.val + 1) (j := 0) hki.symm (by omega) (by omega) (hC k hk (ix2 f p) hki.symm)

/-- The scales of the point itself. -/
theorem outScales_new {c : Dev nD} {t : Fin cfg0.N} (Z : S2716x128.Idx → EReal) (Y X : S1792.Idx → EReal)
    (er : ∀ p : Fin 128, (fun q : Fin 2716 => wholeZ (F := Ideal) Z (ix2 q p)) = rowAt m c (rowOf t p))
    (e : X = put (segment (grid0.coords t)) (zScale (F := Ideal) (wholeZ Z)) Y) (p : Fin 1792) (h0 : 128 * t.val ≤ p.val)
    (h1 : p.val < 128 * t.val + 128) : X (ix1 p) = outScales (argE m c) (argS m c) (argX m c) (argB m c) (ix1 p) := by
  obtain ⟨q, rfl⟩ : ∃ q : Fin 128, p = rowOf t q := ⟨⟨p.val - 128 * t.val, by omega⟩, Fin.ext (by show p.val = 128 * t.val + (p.val - 128 * t.val); omega)⟩
  have e1 := put_emb (segment (grid0.coords t)) (zScale (F := Ideal) (wholeZ Z)) Y (ix1 q : S128.Idx)
  rw [emb_segment] at e1
  rw [e]
  refine e1.trans ((zScale_eq (wholeZ Z) q).trans ?_)
  exact congrArg (fun r : Fin 2716 → EReal => scaleR (rowMax r)) (er q)

/-- What point `t` leaves in the window of the scales of the products: those of every row met so far. -/
theorem leaves_outScales {c : Dev nD} : ∀ (n : Nat) (t : Fin cfg0.N), t.val = n → ∀ X : S1792.Idx → EReal, (rdat m c).Leaves 5 t X →
    ∀ p : Fin 1792, p.val < 128 * (n + 1) → X (ix1 p) = outScales (argE m c) (argS m c) (argX m c) (argB m c) (ix1 p) := by
  intro n
  induction n with
  | zero =>
    intro t ht X h p hp
    obtain ⟨Y, -, x, y, hf, ⟨_, _, _, Z, _, h0, h1, hT, hZ, -, hy⟩, -, hX⟩ := h
    have e : X = put (segment (grid0.coords t)) (zScale (F := Ideal) (wholeZ Z)) x.c6 := by rw [← hX, hy]
    exact outScales_new m Z _ X (lane_row m hf h0 h1 hT hZ) e p (by omega) (by omega)
  | succ n ih =>
    intro t ht X h p hp
    obtain ⟨Y, hY, x, y, hf, ⟨_, _, _, Z, _, h0, h1, hT, hZ, -, hy⟩, hx, hX⟩ := h
    have e : X = put (segment (grid0.coords t)) (zScale (F := Ideal) (wholeZ Z)) x.c6 := by rw [← hX, hy]
    by_cases hp' : 128 * t.val ≤ p.val
    · exact outScales_new m Z _ X (lane_row m hf h0 h1 hT hZ) e p hp' (by omega)
    · have hl := ((rdat m c).finds_of_pos (w := 5) (t := t) rfl (by omega) Y).mp hY
      have hN : t.val < 14 := t.isLt
      have hl' := hl.resolve_left fun hfl => by
        have h13 := (flush0_5 _).mp hfl
        have h13' : (t.val - 1) % 14 = 13 := h13
        omega
      rw [e, scales_old t _ _ p (by omega), hx]
      exact ih _ (by show t.val - 1 = n; omega) Y hl' p (by omega)

variable {m} in
/-- The arrays of the products after the run. -/
theorem final_products {r : PUnit × MemSt nD τ sig (Elt Ideal)} (h : RDat.FramePost (cfgs 0) (fun c => rdat m c) (V m) r) (c : Dev nD) :
    r.2.mem ((c.tc : Thread nD τ).loc main_v4_0) = outCodes (argE m c) (argS m c) (argX m c) (argB m c)
      ∧ r.2.mem ((c.tc : Thread nD τ).loc main_v4_1) = outScales (argE m c) (argS m c) (argX m c) (argB m c)
      ∧ r.2.mem ((c.tc : Thread nD τ).loc main_v4_2) = inter (argE m c) (argS m c) (argX m c) (argB m c) := by
  obtain ⟨after, hL, hA⟩ := h.exists_exact c
  refine ⟨(hA 4).trans ?_, (hA 5).trans ?_, (hA 6).trans ?_⟩
  · refine ((rdat m c).withAfter after).arrAt_eq_of_covers 4 _ (by decide +kernel) fun t hf y => ?_
    obtain ⟨q, p, rfl⟩ : ∃ q p, y = (ix2 q p : S2716x128.Idx) := ⟨y 0, y 1, eq_ix2 y⟩
    exact (leaves_out m (hL 4 t hf) q p).trans (congrArg (outCodes (argE m c) (argS m c) (argX m c) (argB m c)) (emb_out t q p)).symm
  · refine ((rdat m c).withAfter after).arrAt_eq_of_covers 5 _ (by decide +kernel) fun t hf y => ?_
    obtain ⟨p, rfl⟩ : ∃ p, y = (ix1 p : S1792.Idx) := ⟨y 0, eq_ix1 y⟩
    have h13 : t.val % 14 = 13 := (flush0_5 t).mp hf
    have hp : p.val < 1792 := p.isLt
    exact (leaves_outScales m t.val t rfl _ (hL 5 t hf) p (by omega)).trans
      (congrArg (outScales (argE m c) (argS m c) (argX m c) (argB m c)) (emb_outScales t p)).symm
  · refine ((rdat m c).withAfter after).arrAt_eq_of_covers 6 _ (by decide +kernel) fun t hf y => ?_
    obtain ⟨f, p, rfl⟩ : ∃ f p, y = (ix2 f p : S71x128.Idx) := ⟨y 0, y 1, eq_ix2 y⟩
    exact (leaves_inter m (hL 6 t hf) f p).trans (congrArg (inter (argE m c) (argS m c) (argX m c) (argB m c)) (emb_inter t f p)).symm

end Cert.KernelIdeal.Rows

end
-- ==== Proof.ReferenceRun.lean ====
module

public import proofs.«01_k».proof.Proof.Gen.ReferenceIdeal.Frame
public import Idealize.ShloMosaic.Lib.Pipeline.Value

@[expose] public section

noncomputable section

namespace Cert.ReferenceIdeal.Rows

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! What the run of the reference leaves in its two result arrays, and that the arguments stay. -/

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_4) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S1792x71x160.Idx) : ((cfg0.win 0).blk t).view.emb j = j := by
  obtain ⟨e0, e1, e2⟩ := idx_zero0 t
  funext a; apply Fin.ext
  match a with
  | ⟨0, _⟩ => show win0_0.index t (0 : Fin 3) * 1792 + 1 * (j 0).val = (j 0).val; omega
  | ⟨1, _⟩ => show win0_0.index t (1 : Fin 3) * 71 + 1 * (j 1).val = (j 1).val; omega
  | ⟨2, _⟩ => show win0_0.index t (2 : Fin 3) * 160 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1792x71.Idx) : ((cfg0.win 1).blk t).view.emb j = j := by
  obtain ⟨e0, e1⟩ := idx_zero1 t
  funext a; apply Fin.ext
  match a with
  | ⟨0, _⟩ => show win0_1.index t (0 : Fin 2) * 1792 + 1 * (j 0).val = (j 0).val; omega
  | ⟨1, _⟩ => show win0_1.index t (1 : Fin 2) * 71 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1792x160.Idx) : ((cfg0.win 2).blk t).view.emb j = j := by
  obtain ⟨e0, e1⟩ := idx_zero2 t
  funext a; apply Fin.ext
  match a with
  | ⟨0, _⟩ => show win0_2.index t (0 : Fin 2) * 1792 + 1 * (j 0).val = (j 0).val; omega
  | ⟨1, _⟩ => show win0_2.index t (1 : Fin 2) * 160 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1792x160.Idx) : ((cfg0.win 3).blk t).view.emb j = j := by
  obtain ⟨e0, e1⟩ := idx_zero3 t
  funext a; apply Fin.ext
  match a with
  | ⟨0, _⟩ => show win0_3.index t (0 : Fin 2) * 1792 + 1 * (j 0).val = (j 0).val; omega
  | ⟨1, _⟩ => show win0_3.index t (1 : Fin 2) * 160 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2716x1792.Idx) : ((cfg0.win 4).blk t).view.emb j = j := by
  obtain ⟨e0, e1⟩ := idx_zero4 t
  funext a; apply Fin.ext
  match a with
  | ⟨0, _⟩ => show win0_4.index t (0 : Fin 2) * 2716 + 1 * (j 0).val = (j 0).val; omega
  | ⟨1, _⟩ => show win0_4.index t (1 : Fin 2) * 1792 + 1 * (j 1).val = (j 1).val; omega

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S1792.Idx) : ((cfg0.win 5).blk t).view.emb j = j := by
  have e0 := idx_zero5 t
  funext a; apply Fin.ext
  match a with
  | ⟨0, _⟩ => show win0_5.index t (0 : Fin 1) * 1792 + 1 * (j 0).val = (j 0).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S71x1792.Idx) : ((cfg0.win 6).blk t).view.emb j = j := by
  obtain ⟨e0, e1⟩ := idx_zero6 t
  funext a; apply Fin.ext
  match a with
  | ⟨0, _⟩ => show win0_6.index t (0 : Fin 2) * 71 + 1 * (j 0).val = (j 0).val; omega
  | ⟨1, _⟩ => show win0_6.index t (1 : Fin 2) * 1792 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S160x1792.Idx) : ((cfg0.win 7).blk t).view.emb j = j := by
  obtain ⟨e0, e1⟩ := idx_zero7 t
  funext a; apply Fin.ext
  match a with
  | ⟨0, _⟩ => show win0_7.index t (0 : Fin 2) * 160 + 1 * (j 0).val = (j 0).val; omega
  | ⟨1, _⟩ => show win0_7.index t (1 : Fin 2) * 1792 + 1 * (j 1).val = (j 1).val; omega

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S1792.Idx) : ((cfg0.win 8).blk t).view.emb j = j := by
  have e0 := idx_zero8 t
  funext a; apply Fin.ext
  match a with
  | ⟨0, _⟩ => show win0_8.index t (0 : Fin 1) * 1792 + 1 * (j 0).val = (j 0).val; omega

/-- The rows of x and the products. -/
def rowsOf (a0 : Vec F S1792x71x160 .i8) (a1 : Vec F S1792x71 .f32) (a2 : Vec F S1792x160 .bf16) (a3 : Vec F S1792x160 .i8) : FVec F S1792x2716 .f32 :=
  k0_pay55 (k0_pay63 a0 a1 a2 a3) (k0_pay66 a0 a1 a2 a3) (k0_pay67 a0 a1 a2 a3) (k0_pay68 a0 a1 a2 a3) (k0_pay69 a0 a1 a2 a3) (k0_pay70 a0 a1 a2 a3) (k0_pay71 a0 a1 a2 a3) (k0_pay72 a0 a1 a2 a3) (k0_pay73 a0 a1 a2 a3) (k0_pay74 a0 a1 a2 a3) (k0_pay75 a0 a1 a2 a3) (k0_pay76 a0 a1 a2 a3) (k0_pay77 a0 a1 a2 a3) (k0_pay78 a0 a1 a2 a3) (k0_pay79 a0 a1 a2 a3) (k0_pay80 a0 a1 a2 a3) (k0_pay81 a0 a1 a2 a3) (k0_pay82 a0 a1 a2 a3) (k0_pay83 a0 a1 a2 a3) (k0_pay84 a0 a1 a2 a3) (k0_pay85 a0 a1 a2 a3) (k0_pay86 a0 a1 a2 a3) (k0_pay87 a0 a1 a2 a3) (k0_pay88 a0 a1 a2 a3) (k0_pay89 a0 a1 a2 a3) (k0_pay90 a0 a1 a2 a3) (k0_pay91 a0 a1 a2 a3) (k0_pay92 a0 a1 a2 a3) (k0_pay93 a0 a1 a2 a3) (k0_pay94 a0 a1 a2 a3) (k0_pay95 a0 a1 a2 a3) (k0_pay96 a0 a1 a2 a3) (k0_pay97 a0 a1 a2 a3) (k0_pay98 a0 a1 a2 a3) (k0_pay99 a0 a1 a2 a3) (k0_pay100 a0 a1 a2 a3) (k0_pay101 a0 a1 a2 a3) (k0_pay102 a0 a1 a2 a3) (k0_pay103 a0 a1 a2 a3) (k0_pay104 a0 a1 a2 a3) (k0_pay105 a0 a1 a2 a3) (k0_pay106 a0 a1 a2 a3) (k0_pay107 a0 a1 a2 a3) (k0_pay108 a0 a1 a2 a3) (k0_pay109 a0 a1 a2 a3) (k0_pay110 a0 a1 a2 a3) (k0_pay111 a0 a1 a2 a3) (k0_pay112 a0 a1 a2 a3) (k0_pay113 a0 a1 a2 a3) (k0_pay114 a0 a1 a2 a3)

/-! ### Output window 4: the array after the run -/

/-- What the window's array ends holding: `out0_4` applied to the argument arrays in place of the input blocks (a value that the
    frame states apart, `kK_payN a…`, keeps its loads inside its own definition). -/
abbrev G4 (a0 : Vec F S1792x71x160 .i8) (a1 : Vec F S1792x71 .f32) (a2 : Vec F S1792x160 .bf16) (a3 : Vec F S1792x160 .i8) : Vec F S2716x1792 .fp8e4m3 :=
  k0_pay60 (rowsOf a0 a1 a2 a3) (k0_pay115 a0 a1 a2 a3) (k0_pay116 a0 a1 a2 a3) (Scalar.ofBits .f32 0x3F800000#32)

/-- A load of the whole of a block reads the block, and the one store through the whole rectangle leaves its payload. -/
theorem out4_eq (a0 : Vec F S1792x71x160 .i8) (a1 : Vec F S1792x71 .f32) (a2 : Vec F S1792x160 .bf16) (a3 : Vec F S1792x160 .i8) : out0_4 (F := F) a0 a1 a2 a3 = G4 a0 a1 a2 a3 := by
  unfold out0_4
  rw [View.canon_unit_zero hz4]
  rfl

/-- Cutting the point's block out of `X` and reading `X` through the block's view give the same. -/
theorem cut4_eq (t : Fin cfg0.N) (X : Vec F S2716x1792 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S2716x1792.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S1792x71x160 .i8) (a1 : Vec F S1792x71 .f32) (a2 : Vec F S1792x160 .bf16) (a3 : Vec F S1792x160 .i8) : Vec F S1792 .f32 :=
  k0_pay59 (k0_pay115 a0 a1 a2 a3) (k0_pay116 a0 a1 a2 a3) (Scalar.ofBits .f32 0x3F800000#32)

/-- A load of the whole of a block reads the block, and the one store through the whole rectangle leaves its payload. -/
theorem out5_eq (a0 : Vec F S1792x71x160 .i8) (a1 : Vec F S1792x71 .f32) (a2 : Vec F S1792x160 .bf16) (a3 : Vec F S1792x160 .i8) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S1792 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S1792.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S1792x71x160 .i8) (a1 : Vec F S1792x71 .f32) (a2 : Vec F S1792x160 .bf16) (a3 : Vec F S1792x160 .i8) : Vec F S71x1792 .f32 :=
  k0_pay61 (k0_pay66 a0 a1 a2 a3)

/-- A load of the whole of a block reads the block, and the one store through the whole rectangle leaves its payload. -/
theorem out6_eq (a0 : Vec F S1792x71x160 .i8) (a1 : Vec F S1792x71 .f32) (a2 : Vec F S1792x160 .bf16) (a3 : Vec F S1792x160 .i8) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S71x1792 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S71x1792.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ### Output window 7: the array after the run -/

/-- What the window's array ends holding: `out0_7` applied to the argument arrays in place of the input blocks (a value that the
    frame states apart, `kK_payN a…`, keeps its loads inside its own definition). -/
abbrev G7 (a0 : Vec F S1792x71x160 .i8) (a1 : Vec F S1792x71 .f32) (a2 : Vec F S1792x160 .bf16) (a3 : Vec F S1792x160 .i8) : Vec F S160x1792 .fp8e4m3 :=
  k0_pay62 (k0_pay4 a2)

/-- A load of the whole of a block reads the block, and the one store through the whole rectangle leaves its payload. -/
theorem out7_eq (a0 : Vec F S1792x71x160 .i8) (a1 : Vec F S1792x71 .f32) (a2 : Vec F S1792x160 .bf16) (a3 : Vec F S1792x160 .i8) : out0_7 (F := F) a0 a1 a2 a3 = G7 a0 a1 a2 a3 := by
  unfold out0_7
  rw [View.canon_unit_zero hz7, View.ld_unit_zero (S := S1792x160) hz2 _ a2]

/-- Cutting the point's block out of `X` and reading `X` through the block's view give the same. -/
theorem cut7_eq (t : Fin cfg0.N) (X : Vec F S160x1792 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3)) := by
  show (cfg0.win 7).cut (grid0.coords t) ((dats m 0 c).after 7 t) = _
  rw [after0_7, out7_eq, iblk0_eq, iblk1_eq, iblk2_eq, iblk3_eq]
  exact cut7_eq t _

/-- Every index of the array is in the point's block. -/
theorem covered7 (i : S160x1792.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  ((dats m 0 c).arrAt_eq_of_cover 7 (G7 (V m c main_arg0) (V m c main_arg1) (V m c main_arg2) (V m c main_arg3)) (fun t _ => flushed7_eq m c t) covered7).trans (by rw [V_main_arg0, V_main_arg1, V_main_arg2, V_main_arg3])

/-! ### Output window 8: the array after the run -/

/-- What the window's array ends holding: `out0_8` applied to the argument arrays in place of the input blocks (a value that the
    frame states apart, `kK_payN a…`, keeps its loads inside its own definition). -/
abbrev G8 (a0 : Vec F S1792x71x160 .i8) (a1 : Vec F S1792x71 .f32) (a2 : Vec F S1792x160 .bf16) (a3 : Vec F S1792x160 .i8) : Vec F S1792 .f32 :=
  k0_pay64 a0 a1 a2 a3

/-- A load of the whole of a block reads the block, and the one store through the whole rectangle leaves its payload. -/
theorem out8_eq (a0 : Vec F S1792x71x160 .i8) (a1 : Vec F S1792x71 .f32) (a2 : Vec F S1792x160 .bf16) (a3 : Vec F S1792x160 .i8) : out0_8 (F := F) a0 a1 a2 a3 = G8 a0 a1 a2 a3 := by
  unfold out0_8
  rw [View.canon_unit_zero hz8]

/-- Cutting the point's block out of `X` and reading `X` through the block's view give the same. -/
theorem cut8_eq (t : Fin cfg0.N) (X : Vec F S1792 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3)) := by
  show (cfg0.win 8).cut (grid0.coords t) ((dats m 0 c).after 8 t) = _
  rw [after0_8, out8_eq, iblk0_eq, iblk1_eq, iblk2_eq, iblk3_eq]
  exact cut8_eq t _

/-- Every index of the array is in the point's block. -/
theorem covered8 (i : S1792.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) :=
  ((dats m 0 c).arrAt_eq_of_cover 8 (G8 (V m c main_arg0) (V m c main_arg1) (V m c main_arg2) (V m c main_arg3)) (fun t _ => flushed8_eq m c t) covered8).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_v0_4) = G8 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c⟩)
    (run_main m ρ)

end Cert.ReferenceIdeal.Rows

end
-- ==== Proof.ReferenceRows.lean ====
/-
  The reference's five results, element by element.
-/
module

public import proofs.«01_k».proof.Proof.ReferenceRun
public import proofs.«01_k».proof.Proof.Pairs
public import Idealize.ShloMosaic.Lib.ValueIdxCore

@[expose] public section

set_option maxRecDepth 16384
set_option backward.isDefEq.respectTransparency.types false

noncomputable section

namespace Cert.ReferenceIdeal.Rows

open Cert Cert.ReferenceIdeal Cert.ReferenceIdeal.Gen Cert.Scale Cert.Pairs
open Idealize.ShloMosaic Idealize.ShloMosaic.TcCoe Idealize.ShloMosaic.ValueIdx

theorem lift_row (j : S1792.Idx) (k : Fin 160) : (reduces_S1792x160_S1792).lift j k = ix2 (j 0) k := by
  funext a; apply Fin.ext
  rw [Shape.Reduces.lift_val]
  match a with
  | ⟨0, _⟩ => rfl
  | ⟨1, _⟩ => rfl

/-- The greatest magnitudes. -/
theorem rowMax_eq (v0 : Vec Ideal S1792x160 .bf16) (j : S1792.Idx) :
    multiReduction (F := Ideal) .maximumf [1] S1792 (absf (k0_pay1 v0)) 0xFF800000#32 reduces_S1792x160_S1792 (.inl rfl) rfl j
      = rowMax fun k : Fin 160 => v0 (ix2 (j 0) k) := by
  refine (Ideal.multiReduction_maximumf_single _ _ _ _ _ j).trans ?_
  unfold rowMax
  refine Finset.fold_congr fun k _ => ?_
  show max (v0 ((reduces_S1792x160_S1792).lift j k)) (-v0 ((reduces_S1792x160_S1792).lift j k)) = _
  rw [lift_row]
  rfl

/-- The greatest magnitude of every row. -/
def greatest (v0 : Vec Ideal S1792x160 .bf16) : FVec Ideal S1792 .f32 :=
  multiReduction (F := Ideal) .maximumf [1] S1792 (absf (k0_pay1 v0)) 0xFF800000#32 reduces_S1792x160_S1792 (.inl rfl) rfl

/-- The exponent before it is replaced by zero where the row has none. -/
def roundedV (a : FVec Ideal S1792 .f32) : FVec Ideal S1792 .f32 :=
  maximumf (addf (floor (divf (log (mulf a (broadcast S1792 (Scalar.ofBits .f32 0x3B124925#32))))
      (log (broadcast S1792 (Scalar.ofBits .f32 0x40000000#32)))))
    (broadcast S1792 (Scalar.ofBits .f32 0x3F800000#32))) (broadcast S1792 (Scalar.ofBits .f32 0xC2FC0000#32))

theorem roundedV_apply (a : FVec Ideal S1792 .f32) (j : S1792.Idx) : roundedV a j = rounded (a j) := rfl

def exponentV (a : FVec Ideal S1792 .f32) : FVec Ideal S1792 .f32 :=
  select (ori (cmpf .oeq a (broadcast S1792 (Scalar.ofBits .f32 0x00000000#32)))
      (cmpf .ogt (roundedV a) (broadcast S1792 (Scalar.ofBits .f32 0x42FE0000#32))))
    (broadcast S1792 (Scalar.ofBits .f32 0x00000000#32)) (roundedV a)

theorem exponentV_apply (a : FVec Ideal S1792 .f32) (j : S1792.Idx) : exponentV a j = exponentR (a j) := by
  unfold exponentR
  rw [← roundedV_apply]
  rfl

theorem exponentV_eq (v0 : Vec Ideal S1792x160 .bf16) : k0_pay2 v0 = exponentV (greatest v0) := by
  unfold k0_pay2 exponentV roundedV greatest
  rfl

/-- The exponent of a row. -/
theorem exponent_eq (v0 : Vec Ideal S1792x160 .bf16) (p : Fin 1792) :
    k0_pay2 v0 (ix1 p) = exponentR (rowMax fun k : Fin 160 => v0 (ix2 p k)) := by
  rw [exponentV_eq, exponentV_apply]
  exact congrArg exponentR (rowMax_eq v0 (ix1 p))

theorem scale_eq (v0 : Vec Ideal S1792x160 .bf16) (p : Fin 1792) :
    k0_pay3 v0 (ix1 p) = scaleR (rowMax fun k : Fin 160 => v0 (ix2 p k)) :=
  congrArg Ideal.exp2 (exponent_eq v0 p)

/-- The multiplier of a row. -/
def inverse (v0 : Vec Ideal S1792x160 .bf16) : FVec Ideal S1792 .f32 :=
  select (cmpf .ogt (k0_pay2 v0) (broadcast S1792 (FloatOps.ofBits .f32 0x42FC0000#32)))
    (broadcast S1792 (FloatOps.ofBits .f32 0x00000000#32))
    (exp2 (subf (broadcast S1792 (FloatOps.ofBits .f32 0x00000000#32)) (k0_pay2 v0)))

theorem inverse_eq (v0 : Vec Ideal S1792x160 .bf16) (p : Fin 1792) :
    inverse v0 (ix1 p) = inverseR (rowMax fun k : Fin 160 => v0 (ix2 p k)) := by
  unfold inverseR
  rw [← exponent_eq]
  rfl

/-- The codes before the two axes are exchanged. -/
def clipped (v0 : Vec Ideal S1792x160 .bf16) : FVec Ideal S1792x160 .f32 :=
  minimumf (broadcast S1792x160 (FloatOps.ofBits .f32 0x43E00000#32))
    (maximumf (broadcast S1792x160 (FloatOps.ofBits .f32 0xC3E00000#32))
      (mulf (k0_pay1 v0) (broadcastTo S1792x160 (shapeCast S1792x1 (inverse v0) shapeCasts_S1792_S1792x1)
        broadcasts_S1792x1_S1792x160)))

theorem clipped_eq (v0 : Vec Ideal S1792x160 .bf16) (p : Fin 1792) (k : Fin 160) :
    clipped v0 (ix2 p k) = code (inverseR (rowMax fun k : Fin 160 => v0 (ix2 p k))) (v0 (ix2 p k)) := by
  rw [← inverse_eq]
  refine congrArg (fun s => code s (v0 (ix2 p k)))
    ((broadcastTo_apply _ broadcasts_S1792x1_S1792x160 (ix2 p k) (ix2 p (0 : Fin 1))
      (fun a => by match a with | ⟨0, _⟩ => rfl | ⟨1, _⟩ => rfl)).trans
    (shapeCast_apply _ shapeCasts_S1792_S1792x1 (ix2 p (0 : Fin 1)) (ix1 p) ?_))
  refine (Shape.rowMajor_val_one (d := ![1792]) (ix1 p)).trans
    ((Shape.rowMajor_val_two (d := ![1792, 1]) (ix2 p (0 : Fin 1))).trans ?_).symm
  show p.val * 1 + 0 = p.val
  omega

theorem codes_eq (v0 : Vec Ideal S1792x160 .bf16) (k : Fin 160) (p : Fin 1792) :
    k0_pay62 (k0_pay4 v0) (ix2 k p) = code (inverseR (rowMax fun k : Fin 160 => v0 (ix2 p k))) (v0 (ix2 p k)) :=
  (transpose_apply _ (clipped v0) transposes_S1792x160_p1_0_S160x1792 (ix2 k p) (ix2 p k)
    (fun b => by match b with | ⟨0, _⟩ => rfl | ⟨1, _⟩ => rfl)).trans (clipped_eq v0 p k)

/-! ### The products -/

section Products

variable (a0 : Vec Ideal S1792x71x160 .i8) (a1 : Vec Ideal S1792x71 .f32) (a2 : Vec Ideal S1792x160 .bf16) (a3 : Vec Ideal S1792x160 .i8)

theorem wide_eq : k0_pay63 a0 a1 a2 a3 = k0_pay1 a2 := by
  unfold k0_pay63
  rw [View.ld_unit_zero (S := S1792x160) hz2 _ a2]

theorem xScales_eq : k0_pay64 a0 a1 a2 a3 = k0_pay3 a2 := by
  unfold k0_pay64
  rw [View.ld_unit_zero (S := S1792x160) hz2 _ a2]

theorem emb_codes_eq : k0_pay65 a0 a1 a2 a3 = k0_pay5 a0 := by
  unfold k0_pay65
  rw [View.ld_unit_zero (S := S1792x71x160) hz0 _ a0]

theorem products_eq : k0_pay66 a0 a1 a2 a3 = k0_pay6 (k0_pay3 a2) (k0_pay5 a0) a3 a1 := by
  unfold k0_pay66
  rw [xScales_eq, emb_codes_eq, View.ld_unit_zero (S := S1792x160) hz3 _ a3, View.ld_unit_zero (S := S1792x71) hz1 _ a1]

/-- The codes of all features of a row, feature 0 first. -/
def allCodes : FVec Ideal S1792x72x160 .f32 :=
  concatenate S1792x72x160 1
    [⟨S1792x1x160, shapeCast S1792x1x160 (extf (F := Ideal) .f32 (bitcastToFloat (F := Ideal) .fp8e4m3 a3) bitsLt_fp8e4m3_f32) shapeCasts_S1792x160_S1792x1x160⟩,
      ⟨S1792x71x160, k0_pay5 a0⟩] concatenates_S1792x1x160_S1792x71x160_S1792x72x160_d1

/-- Their scales. -/
def allScales : FVec Ideal S1792x72 .f32 :=
  concatenate S1792x72 1 [⟨S1792x1, shapeCast S1792x1 (k0_pay3 a2) shapeCasts_S1792_S1792x1⟩, ⟨S1792x71, a1⟩]
    concatenates_S1792x1_S1792x71_S1792x72_d1

theorem allCodes_apply (p : Fin 1792) (k : Fin 160) :
    ∀ (f : ℕ) (hf : f < 72), allCodes a0 a3 (ix3 p (⟨f, hf⟩ : Fin 72) k) = codeOf a0 a3 p f k
  | 0, _ => by
    refine (concatenate_pair_apply_left 1 _ _ concatenates_S1792x1x160_S1792x71x160_S1792x72x160_d1 _ rfl
      (ix3 p (0 : Fin 1) k) (fun b => by match b with | ⟨0, _⟩ => rfl | ⟨1, _⟩ => rfl | ⟨2, _⟩ => rfl)).trans ?_
    refine (shapeCast_apply _ shapeCasts_S1792x160_S1792x1x160 (ix3 p (0 : Fin 1) k) (ix2 p k) ?_).trans rfl
    refine (Shape.rowMajor_val_two (d := ![1792, 160]) (ix2 p k)).trans
      ((Shape.rowMajor_val_three (d := ![1792, 1, 160]) (ix3 p (0 : Fin 1) k)).trans ?_).symm
    show (p.val * 1 + 0) * 160 + k.val = p.val * 160 + k.val
    omega
  | f + 1, hf => by
    have hf' : f < 71 := by omega
    have e : codeOf a0 a3 p (f + 1) k = Ideal.ofBits .fp8e4m3 (a0 (ix3 p ⟨f, hf'⟩ k)) := dif_pos hf'
    rw [e]
    exact (concatenate_pair_apply_right 1 _ _ concatenates_S1792x1x160_S1792x71x160_S1792x72x160_d1 _ rfl rfl
      (ix3 p (⟨f, hf'⟩ : Fin 71) k)
      (fun b hb => by match b with | ⟨0, _⟩ => rfl | ⟨1, _⟩ => exact absurd rfl hb | ⟨2, _⟩ => rfl) rfl).trans rfl

theorem allScales_apply (p : Fin 1792) :
    ∀ (f : ℕ) (hf : f < 72), allScales a1 a2 (ix2 p (⟨f, hf⟩ : Fin 72)) = scaleAt a1 a2 p f
  | 0, _ => by
    refine (concatenate_pair_apply_left 1 _ _ concatenates_S1792x1_S1792x71_S1792x72_d1 _ rfl
      (ix2 p (0 : Fin 1)) (fun b => by match b with | ⟨0, _⟩ => rfl | ⟨1, _⟩ => rfl)).trans ?_
    refine (shapeCast_apply _ shapeCasts_S1792_S1792x1 (ix2 p (0 : Fin 1)) (ix1 p) ?_).trans (scale_eq a2 p)
    refine (Shape.rowMajor_val_one (d := ![1792]) (ix1 p)).trans
      ((Shape.rowMajor_val_two (d := ![1792, 1]) (ix2 p (0 : Fin 1))).trans ?_).symm
    show p.val * 1 + 0 = p.val
    omega
  | f + 1, hf => by
    have hf' : f < 71 := by omega
    have e : scaleAt a1 a2 p (f + 1) = a1 (ix2 p ⟨f, hf'⟩) := dif_pos hf'
    rw [e]
    exact concatenate_pair_apply_right 1 _ _ concatenates_S1792x1_S1792x71_S1792x72_d1 _ rfl rfl
      (ix2 p (⟨f, hf'⟩ : Fin 71)) (fun b hb => by match b with | ⟨0, _⟩ => rfl | ⟨1, _⟩ => exact absurd rfl hb) rfl

theorem lift_channel (p : Fin 1792) (i j : Fin 72) (k : Fin 160) :
    (reduces_S1792x72x72x160_S1792x72x72).lift (ix3 p i j) k = ix4 p i j k := by
  funext a; apply Fin.ext
  rw [Shape.Reduces.lift_val]
  match a with
  | ⟨0, _⟩ => rfl
  | ⟨1, _⟩ => rfl
  | ⟨2, _⟩ => rfl
  | ⟨3, _⟩ => rfl

/-- The codes of the first feature of a pair, and of the second. -/
theorem codes_first (v : FVec Ideal S1792x72x160 .f32) (p : Fin 1792) (i j : Fin 72) (k : Fin 160) :
    broadcastTo S1792x72x72x160 (shapeCast S1792x72x1x160 v shapeCasts_S1792x72x160_S1792x72x1x160)
      broadcasts_S1792x72x1x160_S1792x72x72x160 (ix4 p i j k) = v (ix3 p i k) := by
  refine (broadcastTo_apply _ broadcasts_S1792x72x1x160_S1792x72x72x160 (ix4 p i j k) (ix4 p i (0 : Fin 1) k)
    (fun a => by match a with | ⟨0, _⟩ => rfl | ⟨1, _⟩ => rfl | ⟨2, _⟩ => rfl | ⟨3, _⟩ => rfl)).trans
    (shapeCast_apply _ shapeCasts_S1792x72x160_S1792x72x1x160 _ (ix3 p i k) ?_)
  refine (Shape.rowMajor_val_three (d := ![1792, 72, 160]) (ix3 p i k)).trans
    ((Shape.rowMajor_val_four (d := ![1792, 72, 1, 160]) (ix4 p i (0 : Fin 1) k)).trans ?_).symm
  show ((p.val * 72 + i.val) * 1 + 0) * 160 + k.val = (p.val * 72 + i.val) * 160 + k.val
  omega

theorem codes_second (v : FVec Ideal S1792x72x160 .f32) (p : Fin 1792) (i j : Fin 72) (k : Fin 160) :
    broadcastTo S1792x72x72x160 (shapeCast S1792x1x72x160 v shapeCasts_S1792x72x160_S1792x1x72x160)
      broadcasts_S1792x1x72x160_S1792x72x72x160 (ix4 p i j k) = v (ix3 p j k) := by
  refine (broadcastTo_apply _ broadcasts_S1792x1x72x160_S1792x72x72x160 (ix4 p i j k) (ix4 p (0 : Fin 1) j k)
    (fun a => by match a with | ⟨0, _⟩ => rfl | ⟨1, _⟩ => rfl | ⟨2, _⟩ => rfl | ⟨3, _⟩ => rfl)).trans
    (shapeCast_apply _ shapeCasts_S1792x72x160_S1792x1x72x160 _ (ix3 p j k) ?_)
  refine (Shape.rowMajor_val_three (d := ![1792, 72, 160]) (ix3 p j k)).trans
    ((Shape.rowMajor_val_four (d := ![1792, 1, 72, 160]) (ix4 p (0 : Fin 1) j k)).trans ?_).symm
  show ((p.val * 1 + 0) * 72 + j.val) * 160 + k.val = (p.val * 72 + j.val) * 160 + k.val
  omega

theorem scales_left (v : FVec Ideal S1792x72 .f32) (p : Fin 1792) (i j : Fin 72) :
    broadcastTo S1792x72x72 (shapeCast S1792x72x1 v shapeCasts_S1792x72_S1792x72x1) broadcasts_S1792x72x1_S1792x72x72 (ix3 p i j)
      = v (ix2 p i) := by
  refine (broadcastTo_apply _ broadcasts_S1792x72x1_S1792x72x72 (ix3 p i j) (ix3 p i (0 : Fin 1))
    (fun a => by match a with | ⟨0, _⟩ => rfl | ⟨1, _⟩ => rfl | ⟨2, _⟩ => rfl)).trans
    (shapeCast_apply _ shapeCasts_S1792x72_S1792x72x1 _ (ix2 p i) ?_)
  refine (Shape.rowMajor_val_two (d := ![1792, 72]) (ix2 p i)).trans
    ((Shape.rowMajor_val_three (d := ![1792, 72, 1]) (ix3 p i (0 : Fin 1))).trans ?_).symm
  show (p.val * 72 + i.val) * 1 + 0 = p.val * 72 + i.val
  omega

theorem scales_right (v : FVec Ideal S1792x72 .f32) (p : Fin 1792) (i j : Fin 72) :
    broadcastTo S1792x72x72 (shapeCast S1792x1x72 v shapeCasts_S1792x72_S1792x1x72) broadcasts_S1792x1x72_S1792x72x72 (ix3 p i j)
      = v (ix2 p j) := by
  refine (broadcastTo_apply _ broadcasts_S1792x1x72_S1792x72x72 (ix3 p i j) (ix3 p (0 : Fin 1) j)
    (fun a => by match a with | ⟨0, _⟩ => rfl | ⟨1, _⟩ => rfl | ⟨2, _⟩ => rfl)).trans
    (shapeCast_apply _ shapeCasts_S1792x72_S1792x1x72 _ (ix2 p j) ?_)
  refine (Shape.rowMajor_val_two (d := ![1792, 72]) (ix2 p j)).trans
    ((Shape.rowMajor_val_three (d := ![1792, 1, 72]) (ix3 p (0 : Fin 1) j)).trans ?_).symm
  show (p.val * 1 + 0) * 72 + j.val = p.val * 72 + j.val
  omega

/-- The sums over the channels. -/
def dots (v : FVec Ideal S1792x72x160 .f32) : FVec Ideal S1792x72x72 .f32 :=
  multiReduction (F := Ideal) .add [3] S1792x72x72
    (mulf (broadcastTo S1792x72x72x160 (shapeCast S1792x72x1x160 v shapeCasts_S1792x72x160_S1792x72x1x160) broadcasts_S1792x72x1x160_S1792x72x72x160)
      (broadcastTo S1792x72x72x160 (shapeCast S1792x1x72x160 v shapeCasts_S1792x72x160_S1792x1x72x160) broadcasts_S1792x1x72x160_S1792x72x72x160))
    0x00000000#32 reduces_S1792x72x72x160_S1792x72x72 (.inl rfl) rfl

theorem dots_apply (v : FVec Ideal S1792x72x160 .f32) (p : Fin 1792) (i j : Fin 72) :
    dots v (ix3 p i j) = ∑ k : Fin 160, v (ix3 p i k) * v (ix3 p j k) := by
  refine (Ideal.multiReduction_add_single _ _ _ _ _ (ix3 p i j)).trans (Finset.sum_congr rfl fun k _ => ?_)
  rw [lift_channel]
  exact congrArg₂ (fun a b : EReal => a * b) (codes_first v p i j k) (codes_second v p i j k)

theorem products_form : k0_pay6 (k0_pay3 a2) (k0_pay5 a0) a3 a1
    = mulf (mulf (broadcastTo S1792x72x72 (shapeCast S1792x72x1 (allScales a1 a2) shapeCasts_S1792x72_S1792x72x1) broadcasts_S1792x72x1_S1792x72x72)
        (broadcastTo S1792x72x72 (shapeCast S1792x1x72 (allScales a1 a2) shapeCasts_S1792x72_S1792x1x72) broadcasts_S1792x1x72_S1792x72x72))
      (dots (allCodes a0 a3)) := by
  unfold k0_pay6 dots allScales allCodes
  rfl

/-- A product of two features of a row. -/
theorem products_apply (p : Fin 1792) (i j : ℕ) (hi : i < 72) (hj : j < 72) :
    k0_pay66 a0 a1 a2 a3 (ix3 p (⟨i, hi⟩ : Fin 72) (⟨j, hj⟩ : Fin 72)) = pairOf a0 a1 a2 a3 p i j := by
  rw [products_eq, products_form]
  refine (congrArg₂ (fun a b : EReal => a * b)
    (congrArg₂ (fun a b : EReal => a * b) (scales_left (allScales a1 a2) p ⟨i, hi⟩ ⟨j, hj⟩) (scales_right (allScales a1 a2) p ⟨i, hi⟩ ⟨j, hj⟩))
    (dots_apply (allCodes a0 a3) p ⟨i, hi⟩ ⟨j, hj⟩)).trans ?_
  rw [allScales_apply a1 a2 p i hi, allScales_apply a1 a2 p j hj]
  unfold pairOf
  refine congrArg _ (Finset.sum_congr rfl fun k _ => ?_)
  rw [allCodes_apply a0 a3 p k i hi, allCodes_apply a0 a3 p k j hj]

theorem inter_entry (Z : FVec Ideal S1792x72x72 .f32) (f : Fin 71) (p : Fin 1792) :
    k0_pay61 Z (ix2 f p) = Z (ix3 p (⟨f.val + 1, by omega⟩ : Fin 72) (⟨0, by omega⟩ : Fin 72)) := by
  unfold k0_pay61
  dsimp only
  refine (transpose_apply _ _ transposes_S1792x71_p1_0_S71x1792 (ix2 f p) (ix2 p f)
    (fun b => by match b with | ⟨0, _⟩ => rfl | ⟨1, _⟩ => rfl)).trans ?_
  refine (shapeCast_apply _ shapeCasts_S1792x71x1_S1792x71 (ix2 p f) (ix3 p f (0 : Fin 1)) ?_).trans ?_
  · refine (Shape.rowMajor_val_three (d := ![1792, 71, 1]) (ix3 p f (0 : Fin 1))).trans
      ((Shape.rowMajor_val_two (d := ![1792, 71]) (ix2 p f)).trans ?_).symm
    show p.val * 71 + f.val = (p.val * 71 + f.val) * 1 + 0
    omega
  · refine extractStridedSlice_apply _ Z slices_S1792x72x72_o0_1_0_S1792x71x1 (ix3 p f (0 : Fin 1)) _ (fun a => ?_)
    match a with
    | ⟨0, _⟩ => show p.val = 0 + p.val; omega
    | ⟨1, _⟩ => show f.val + 1 = 1 + f.val; omega
    | ⟨2, _⟩ => rfl

/-- The products with feature 0. -/
theorem inter_eq : k0_pay61 (k0_pay66 a0 a1 a2 a3) = inter a0 a1 a2 a3 := by
  funext y
  obtain ⟨f, p, rfl⟩ : ∃ f p, y = (ix2 f p : S71x1792.Idx) := ⟨y 0, y 1, eq_ix2 y⟩
  have hf := f.isLt
  rw [inter_entry, products_apply a0 a1 a2 a3 p (f.val + 1) 0 (by omega) (by omega)]
  rfl

end Products

end Cert.ReferenceIdeal.Rows

end
-- ==== Proof.ReferenceLong.lean ====
/-
  The reference's row of x and the products, element by element.
-/
module

public import proofs.«01_k».proof.Proof.ReferenceRows
public import Idealize.ShloMosaic.Lib.ValueIdxCore

@[expose] public section

set_option maxRecDepth 16384
set_option backward.isDefEq.respectTransparency.types false

noncomputable section

namespace Cert.ReferenceIdeal.Rows

open Cert Cert.ReferenceIdeal Cert.ReferenceIdeal.Gen Cert.Scale Cert.Pairs
open Idealize.ShloMosaic Idealize.ShloMosaic.TcCoe Idealize.ShloMosaic.ValueIdx

section Products

variable (a0 : Vec Ideal S1792x71x160 .i8) (a1 : Vec Ideal S1792x71 .f32) (a2 : Vec Ideal S1792x160 .bf16) (a3 : Vec Ideal S1792x160 .i8)

/-! ### The row of x and the products -/

/-- The shape of group `i` of the products, with the one of the slice it is read from. -/
abbrev groupShape (i : Fin 71) : Shape := ⟨2, ![1792, i.val + 1]⟩
abbrev sliceShape (i : Fin 71) : Shape := ⟨3, ![1792, 1, i.val + 1]⟩

theorem group_slices (i : Fin 71) : S1792x72x72.Slices ![0, i.val + 1, 0] (sliceShape i) := by
  have h := i.isLt
  refine ⟨rfl, fun a => ?_⟩
  match a with
  | ⟨0, _⟩ => show 0 + 1792 ≤ 1792; omega
  | ⟨1, _⟩ => show i.val + 1 + 1 ≤ 72; omega
  | ⟨2, _⟩ => show 0 + (i.val + 1) ≤ 72; omega

theorem group_casts : ∀ i : Fin 71, (sliceShape i).ShapeCasts (groupShape i) := by decide +kernel

/-- Group `i` of the products: those of feature `i + 1` with the features before it. -/
def group (Z : FVec Ideal S1792x72x72 .f32) (i : Fin 71) : FVec Ideal (groupShape i) .f32 :=
  shapeCast (groupShape i) (extractStridedSlice (sliceShape i) ![0, i.val + 1, 0] Z (group_slices i)) (group_casts i)

theorem group_apply (Z : FVec Ideal S1792x72x72 .f32) (i : Fin 71) (p : Fin 1792) (j : Fin (i.val + 1)) :
    group Z i (ix2 p j) = Z (ix3 p (⟨i.val + 1, by omega⟩ : Fin 72) (⟨j.val, by omega⟩ : Fin 72)) := by
  have hi := i.isLt
  have hj := j.isLt
  refine (shapeCast_apply _ (group_casts i) (ix2 p j) (ix3 p (0 : Fin 1) j) ?_).trans
    (extractStridedSlice_apply _ Z (group_slices i) (ix3 p (0 : Fin 1) j) _ (fun a => ?_))
  · refine (Shape.rowMajor_val_three (d := ![1792, 1, i.val + 1]) (ix3 p (0 : Fin 1) j)).trans
      ((Shape.rowMajor_val_two (d := ![1792, i.val + 1]) (ix2 p j)).trans ?_).symm
    show p.val * (i.val + 1) + j.val = (p.val * 1 + 0) * (i.val + 1) + j.val
    exact congrArg (fun a => a * (i.val + 1) + j.val) (by omega : p.val = p.val * 1 + 0)
  · match a with
    | ⟨0, _⟩ => show p.val = 0 + p.val; omega
    | ⟨1, _⟩ => show i.val + 1 = i.val + 1 + 0; omega
    | ⟨2, _⟩ => show j.val = 0 + j.val; omega

/-- The parts of a row. -/
def parts (v : FVec Ideal S1792x160 .f32) (Z : FVec Ideal S1792x72x72 .f32) : List ((s : Shape) × (s.Idx → EReal)) :=
  ⟨S1792x160, v⟩ :: (List.finRange 71).map fun i => ⟨groupShape i, group Z i⟩

/-- Their shapes. -/
def partShapes : List Shape := S1792x160 :: (List.finRange 71).map groupShape

theorem parts_shapes (v : FVec Ideal S1792x160 .f32) (Z : FVec Ideal S1792x72x72 .f32) : (parts v Z).map (·.1) = partShapes := by
  unfold parts partShapes
  rw [List.map_cons, List.map_map]
  rfl

theorem partShapes_join : Shape.Concatenates partShapes S1792x2716 1 := by decide +kernel

theorem parts_join (v : FVec Ideal S1792x160 .f32) (Z : FVec Ideal S1792x72x72 .f32) :
    Shape.Concatenates ((parts v Z).map (·.1)) S1792x2716 1 := by
  rw [parts_shapes]
  exact partShapes_join

theorem finRange_eq : List.finRange 71 = [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70] := by decide +kernel

theorem parts_eq : parts (k0_pay63 a0 a1 a2 a3) (k0_pay66 a0 a1 a2 a3)
    = [⟨S1792x160, k0_pay63 a0 a1 a2 a3⟩, ⟨S1792x1, k0_pay67 a0 a1 a2 a3⟩, ⟨S1792x2, k0_pay68 a0 a1 a2 a3⟩, ⟨S1792x3, k0_pay69 a0 a1 a2 a3⟩, ⟨S1792x4, k0_pay70 a0 a1 a2 a3⟩, ⟨S1792x5, k0_pay71 a0 a1 a2 a3⟩, ⟨S1792x6, k0_pay72 a0 a1 a2 a3⟩, ⟨S1792x7, k0_pay73 a0 a1 a2 a3⟩, ⟨S1792x8, k0_pay74 a0 a1 a2 a3⟩, ⟨S1792x9, k0_pay75 a0 a1 a2 a3⟩, ⟨S1792x10, k0_pay76 a0 a1 a2 a3⟩, ⟨S1792x11, k0_pay77 a0 a1 a2 a3⟩, ⟨S1792x12, k0_pay78 a0 a1 a2 a3⟩, ⟨S1792x13, k0_pay79 a0 a1 a2 a3⟩, ⟨S1792x14, k0_pay80 a0 a1 a2 a3⟩, ⟨S1792x15, k0_pay81 a0 a1 a2 a3⟩, ⟨S1792x16, k0_pay82 a0 a1 a2 a3⟩, ⟨S1792x17, k0_pay83 a0 a1 a2 a3⟩, ⟨S1792x18, k0_pay84 a0 a1 a2 a3⟩, ⟨S1792x19, k0_pay85 a0 a1 a2 a3⟩, ⟨S1792x20, k0_pay86 a0 a1 a2 a3⟩, ⟨S1792x21, k0_pay87 a0 a1 a2 a3⟩, ⟨S1792x22, k0_pay88 a0 a1 a2 a3⟩, ⟨S1792x23, k0_pay89 a0 a1 a2 a3⟩, ⟨S1792x24, k0_pay90 a0 a1 a2 a3⟩, ⟨S1792x25, k0_pay91 a0 a1 a2 a3⟩, ⟨S1792x26, k0_pay92 a0 a1 a2 a3⟩, ⟨S1792x27, k0_pay93 a0 a1 a2 a3⟩, ⟨S1792x28, k0_pay94 a0 a1 a2 a3⟩, ⟨S1792x29, k0_pay95 a0 a1 a2 a3⟩, ⟨S1792x30, k0_pay96 a0 a1 a2 a3⟩, ⟨S1792x31, k0_pay97 a0 a1 a2 a3⟩, ⟨S1792x32, k0_pay98 a0 a1 a2 a3⟩, ⟨S1792x33, k0_pay99 a0 a1 a2 a3⟩, ⟨S1792x34, k0_pay100 a0 a1 a2 a3⟩, ⟨S1792x35, k0_pay101 a0 a1 a2 a3⟩, ⟨S1792x36, k0_pay102 a0 a1 a2 a3⟩, ⟨S1792x37, k0_pay103 a0 a1 a2 a3⟩, ⟨S1792x38, k0_pay104 a0 a1 a2 a3⟩, ⟨S1792x39, k0_pay105 a0 a1 a2 a3⟩, ⟨S1792x40, k0_pay106 a0 a1 a2 a3⟩, ⟨S1792x41, k0_pay107 a0 a1 a2 a3⟩, ⟨S1792x42, k0_pay108 a0 a1 a2 a3⟩, ⟨S1792x43, k0_pay109 a0 a1 a2 a3⟩, ⟨S1792x44, k0_pay110 a0 a1 a2 a3⟩, ⟨S1792x45, k0_pay111 a0 a1 a2 a3⟩, ⟨S1792x46, k0_pay112 a0 a1 a2 a3⟩, ⟨S1792x47, k0_pay113 a0 a1 a2 a3⟩, ⟨S1792x48, k0_pay114 a0 a1 a2 a3⟩, ⟨S1792x49, shapeCast S1792x49 (extractStridedSlice S1792x1x49 ![0, 49, 0] (k0_pay66 a0 a1 a2 a3) slices_S1792x72x72_o0_49_0_S1792x1x49) shapeCasts_S1792x1x49_S1792x49⟩, ⟨S1792x50, shapeCast S1792x50 (extractStridedSlice S1792x1x50 ![0, 50, 0] (k0_pay66 a0 a1 a2 a3) slices_S1792x72x72_o0_50_0_S1792x1x50) shapeCasts_S1792x1x50_S1792x50⟩, ⟨S1792x51, shapeCast S1792x51 (extractStridedSlice S1792x1x51 ![0, 51, 0] (k0_pay66 a0 a1 a2 a3) slices_S1792x72x72_o0_51_0_S1792x1x51) shapeCasts_S1792x1x51_S1792x51⟩, ⟨S1792x52, shapeCast S1792x52 (extractStridedSlice S1792x1x52 ![0, 52, 0] (k0_pay66 a0 a1 a2 a3) slices_S1792x72x72_o0_52_0_S1792x1x52) shapeCasts_S1792x1x52_S1792x52⟩, ⟨S1792x53, shapeCast S1792x53 (extractStridedSlice S1792x1x53 ![0, 53, 0] (k0_pay66 a0 a1 a2 a3) slices_S1792x72x72_o0_53_0_S1792x1x53) shapeCasts_S1792x1x53_S1792x53⟩, ⟨S1792x54, shapeCast S1792x54 (extractStridedSlice S1792x1x54 ![0, 54, 0] (k0_pay66 a0 a1 a2 a3) slices_S1792x72x72_o0_54_0_S1792x1x54) shapeCasts_S1792x1x54_S1792x54⟩, ⟨S1792x55, shapeCast S1792x55 (extractStridedSlice S1792x1x55 ![0, 55, 0] (k0_pay66 a0 a1 a2 a3) slices_S1792x72x72_o0_55_0_S1792x1x55) shapeCasts_S1792x1x55_S1792x55⟩, ⟨S1792x56, shapeCast S1792x56 (extractStridedSlice S1792x1x56 ![0, 56, 0] (k0_pay66 a0 a1 a2 a3) slices_S1792x72x72_o0_56_0_S1792x1x56) shapeCasts_S1792x1x56_S1792x56⟩, ⟨S1792x57, shapeCast S1792x57 (extractStridedSlice S1792x1x57 ![0, 57, 0] (k0_pay66 a0 a1 a2 a3) slices_S1792x72x72_o0_57_0_S1792x1x57) shapeCasts_S1792x1x57_S1792x57⟩, ⟨S1792x58, shapeCast S1792x58 (extractStridedSlice S1792x1x58 ![0, 58, 0] (k0_pay66 a0 a1 a2 a3) slices_S1792x72x72_o0_58_0_S1792x1x58) shapeCasts_S1792x1x58_S1792x58⟩, ⟨S1792x59, shapeCast S1792x59 (extractStridedSlice S1792x1x59 ![0, 59, 0] (k0_pay66 a0 a1 a2 a3) slices_S1792x72x72_o0_59_0_S1792x1x59) shapeCasts_S1792x1x59_S1792x59⟩, ⟨S1792x60, shapeCast S1792x60 (extractStridedSlice S1792x1x60 ![0, 60, 0] (k0_pay66 a0 a1 a2 a3) slices_S1792x72x72_o0_60_0_S1792x1x60) shapeCasts_S1792x1x60_S1792x60⟩, ⟨S1792x61, shapeCast S1792x61 (extractStridedSlice S1792x1x61 ![0, 61, 0] (k0_pay66 a0 a1 a2 a3) slices_S1792x72x72_o0_61_0_S1792x1x61) shapeCasts_S1792x1x61_S1792x61⟩, ⟨S1792x62, shapeCast S1792x62 (extractStridedSlice S1792x1x62 ![0, 62, 0] (k0_pay66 a0 a1 a2 a3) slices_S1792x72x72_o0_62_0_S1792x1x62) shapeCasts_S1792x1x62_S1792x62⟩, ⟨S1792x63, shapeCast S1792x63 (extractStridedSlice S1792x1x63 ![0, 63, 0] (k0_pay66 a0 a1 a2 a3) slices_S1792x72x72_o0_63_0_S1792x1x63) shapeCasts_S1792x1x63_S1792x63⟩, ⟨S1792x64, shapeCast S1792x64 (extractStridedSlice S1792x1x64 ![0, 64, 0] (k0_pay66 a0 a1 a2 a3) slices_S1792x72x72_o0_64_0_S1792x1x64) shapeCasts_S1792x1x64_S1792x64⟩, ⟨S1792x65, shapeCast S1792x65 (extractStridedSlice S1792x1x65 ![0, 65, 0] (k0_pay66 a0 a1 a2 a3) slices_S1792x72x72_o0_65_0_S1792x1x65) shapeCasts_S1792x1x65_S1792x65⟩, ⟨S1792x66, shapeCast S1792x66 (extractStridedSlice S1792x1x66 ![0, 66, 0] (k0_pay66 a0 a1 a2 a3) slices_S1792x72x72_o0_66_0_S1792x1x66) shapeCasts_S1792x1x66_S1792x66⟩, ⟨S1792x67, shapeCast S1792x67 (extractStridedSlice S1792x1x67 ![0, 67, 0] (k0_pay66 a0 a1 a2 a3) slices_S1792x72x72_o0_67_0_S1792x1x67) shapeCasts_S1792x1x67_S1792x67⟩, ⟨S1792x68, shapeCast S1792x68 (extractStridedSlice S1792x1x68 ![0, 68, 0] (k0_pay66 a0 a1 a2 a3) slices_S1792x72x72_o0_68_0_S1792x1x68) shapeCasts_S1792x1x68_S1792x68⟩, ⟨S1792x69, shapeCast S1792x69 (extractStridedSlice S1792x1x69 ![0, 69, 0] (k0_pay66 a0 a1 a2 a3) slices_S1792x72x72_o0_69_0_S1792x1x69) shapeCasts_S1792x1x69_S1792x69⟩, ⟨S1792x70, shapeCast S1792x70 (extractStridedSlice S1792x1x70 ![0, 70, 0] (k0_pay66 a0 a1 a2 a3) slices_S1792x72x72_o0_70_0_S1792x1x70) shapeCasts_S1792x1x70_S1792x70⟩, ⟨S1792x71, shapeCast S1792x71 (extractStridedSlice S1792x1x71 ![0, 71, 0] (k0_pay66 a0 a1 a2 a3) slices_S1792x72x72_o0_71_0_S1792x1x71) shapeCasts_S1792x1x71_S1792x71⟩] := by
  unfold parts
  rw [finRange_eq]
  rfl

theorem rows_eq : rowsOf a0 a1 a2 a3 = concatenate S1792x2716 1 (parts (k0_pay63 a0 a1 a2 a3) (k0_pay66 a0 a1 a2 a3)) (parts_join _ _) := by
  have h : ∀ (xs : List ((s : Shape) × (s.Idx → EReal))) (e : parts (k0_pay63 a0 a1 a2 a3) (k0_pay66 a0 a1 a2 a3) = xs)
      (hxs : Shape.Concatenates (xs.map (·.1)) S1792x2716 1),
      concatenate S1792x2716 1 (parts (k0_pay63 a0 a1 a2 a3) (k0_pay66 a0 a1 a2 a3)) (parts_join _ _) = concatenate S1792x2716 1 xs hxs := by
    intro xs e hxs
    subst e
    rfl
  refine Eq.trans ?_ (h _ (parts_eq a0 a1 a2 a3) concatenates_S1792x160_S1792x1_S1792x2_S1792x3_S1792x4_S1792x5_S1792x6_S1792x7_S1792x8_S1792x9_S1792x10_S1792x11_S1792x12_S1792x13_S1792x14_S1792x15_S1792x16_S1792x17_S1792x18_S1792x19_S1792x20_S1792x21_S1792x22_S1792x23_S1792x24_S1792x25_S1792x26_S1792x27_S1792x28_S1792x29_S1792x30_S1792x31_S1792x32_S1792x33_S1792x34_S1792x35_S1792x36_S1792x37_S1792x38_S1792x39_S1792x40_S1792x41_S1792x42_S1792x43_S1792x44_S1792x45_S1792x46_S1792x47_S1792x48_S1792x49_S1792x50_S1792x51_S1792x52_S1792x53_S1792x54_S1792x55_S1792x56_S1792x57_S1792x58_S1792x59_S1792x60_S1792x61_S1792x62_S1792x63_S1792x64_S1792x65_S1792x66_S1792x67_S1792x68_S1792x69_S1792x70_S1792x71_S1792x2716_d1).symm
  unfold rowsOf k0_pay55
  rfl

theorem part_start : ∀ i : Fin 71, ((partShapes.take (i.val + 1)).map fun s : Shape =>
    if h : s.rank = S1792x2716.rank then s.size ((1 : Fin S1792x2716.rank).cast h.symm) else 0).sum = 160 + (i.val + 1) * i.val / 2 := by
  decide +kernel

theorem parts_get (v : FVec Ideal S1792x160 .f32) (Z : FVec Ideal S1792x72x72 .f32) (i : ℕ) (hi : i < 71) {h : i + 1 < (parts v Z).length} :
    (parts v Z)[i + 1] = ⟨groupShape ⟨i, hi⟩, group Z ⟨i, hi⟩⟩ := by
  have e : (List.finRange 71)[i]'(by rw [List.length_finRange]; exact hi) = ⟨i, hi⟩ := by
    rw [List.getElem_finRange]
    rfl
  unfold parts
  rw [List.getElem_cons_succ, List.getElem_map, e]

/-- The reference's row is x, then every product in its place. -/
theorem rows_row (p : Fin 1792) : (fun q : Fin 2716 => rowsOf a0 a1 a2 a3 (ix2 p q)) = row a0 a1 a2 a3 p := by
  refine row_unique _ _ _ _ _ _ (fun k q hq => ?_) (fun i j q hi hij hq => ?_)
  · rw [rows_eq]
    refine (concatenate_apply_piece 1 (parts (k0_pay63 a0 a1 a2 a3) (k0_pay66 a0 a1 a2 a3)) (parts_join _ _) (ix2 p q) 0
      (Nat.zero_lt_succ _) S1792x160 (k0_pay63 a0 a1 a2 a3) rfl rfl 0 rfl (ix2 p k) (fun b hb => ?_) ?_).trans ?_
    · match b with
      | ⟨0, _⟩ => rfl
      | ⟨1, _⟩ => exact absurd rfl hb
    · show 0 + k.val = q.val
      omega
    · rw [wide_eq]
      rfl
  · obtain ⟨i, rfl⟩ : ∃ i', i = i' + 1 := ⟨i - 1, by omega⟩
    have hi' : i < 71 := by omega
    rw [rows_eq]
    refine (concatenate_apply_piece 1 (parts (k0_pay63 a0 a1 a2 a3) (k0_pay66 a0 a1 a2 a3)) (parts_join _ _) (ix2 p q) (i + 1)
      (by unfold parts; rw [List.length_cons, List.length_map, List.length_finRange]; omega) (groupShape ⟨i, hi'⟩)
      (group (k0_pay66 a0 a1 a2 a3) ⟨i, hi'⟩) (parts_get _ _ i hi') rfl (160 + (i + 1) * i / 2)
      (by rw [List.map_take, parts_shapes]; exact part_start ⟨i, hi'⟩) (ix2 p (⟨j, hij⟩ : Fin (i + 1))) (fun b hb => ?_) ?_).trans ?_
    · match b with
      | ⟨0, _⟩ => rfl
      | ⟨1, _⟩ => exact absurd rfl hb
    · show 160 + (i + 1) * i / 2 + j = q.val
      exact hq.symm
    · exact (group_apply (k0_pay66 a0 a1 a2 a3) ⟨i, hi'⟩ p ⟨j, hij⟩).trans (products_apply a0 a1 a2 a3 p (i + 1) j hi (by omega))

end Products

end Cert.ReferenceIdeal.Rows

end
-- ==== Proof.ReferenceOut.lean ====
/-
  The reference's scales and codes of the rows of x and the products.
-/
module

public import proofs.«01_k».proof.Proof.ReferenceLong
public import Idealize.ShloMosaic.Lib.ValueIdxCore

@[expose] public section

set_option maxRecDepth 16384
set_option backward.isDefEq.respectTransparency.types false

noncomputable section

namespace Cert.ReferenceIdeal.Rows

open Cert Cert.ReferenceIdeal Cert.ReferenceIdeal.Gen Cert.Scale Cert.Pairs
open Idealize.ShloMosaic Idealize.ShloMosaic.TcCoe Idealize.ShloMosaic.ValueIdx

section Products

variable (a0 : Vec Ideal S1792x71x160 .i8) (a1 : Vec Ideal S1792x71 .f32) (a2 : Vec Ideal S1792x160 .bf16) (a3 : Vec Ideal S1792x160 .i8)

/-! ### Its scale and its codes -/

theorem lift_long (j : S1792.Idx) (k : Fin 2716) : (reduces_S1792x2716_S1792).lift j k = ix2 (j 0) k := by
  funext a; apply Fin.ext
  rw [Shape.Reduces.lift_val]
  match a with
  | ⟨0, _⟩ => rfl
  | ⟨1, _⟩ => rfl

theorem longMax_form : k0_pay115 a0 a1 a2 a3
    = multiReduction (F := Ideal) .maximumf [1] S1792 (absf (rowsOf a0 a1 a2 a3)) 0xFF800000#32 reduces_S1792x2716_S1792 (.inl rfl) rfl := by
  unfold k0_pay115 k0_pay56 rowsOf
  rfl

theorem longMax_eq (p : Fin 1792) : k0_pay115 a0 a1 a2 a3 (ix1 p) = rowMax (row a0 a1 a2 a3 p) := by
  rw [longMax_form, ← rows_row]
  refine (Ideal.multiReduction_maximumf_single _ _ _ _ _ (ix1 p)).trans ?_
  unfold rowMax
  refine Finset.fold_congr fun k _ => ?_
  show max (rowsOf a0 a1 a2 a3 ((reduces_S1792x2716_S1792).lift (ix1 p) k)) (-rowsOf a0 a1 a2 a3 ((reduces_S1792x2716_S1792).lift (ix1 p) k)) = _
  rw [lift_long]
  rfl

theorem longFloor_form : k0_pay116 a0 a1 a2 a3
    = floor (divf (log (mulf (k0_pay115 a0 a1 a2 a3) (broadcast S1792 (Scalar.ofBits .f32 0x3B124925#32))))
      (log (broadcast S1792 (Scalar.ofBits .f32 0x40000000#32)))) := by
  unfold k0_pay116 k0_pay57 k0_pay115
  rfl

theorem longExponent_form : k0_pay58 (k0_pay115 a0 a1 a2 a3) (k0_pay116 a0 a1 a2 a3) (Scalar.ofBits .f32 0x3F800000#32)
    = exponentV (k0_pay115 a0 a1 a2 a3) := by
  rw [longFloor_form]
  unfold k0_pay58 exponentV roundedV
  rfl

theorem longExponent_eq (p : Fin 1792) :
    k0_pay58 (k0_pay115 a0 a1 a2 a3) (k0_pay116 a0 a1 a2 a3) (Scalar.ofBits .f32 0x3F800000#32) (ix1 p)
      = exponentR (rowMax (row a0 a1 a2 a3 p)) := by
  rw [longExponent_form, exponentV_apply, longMax_eq]

theorem scale_entry (v w : FVec Ideal S1792 .f32) (s : Ideal .f32) (j : S1792.Idx) : k0_pay59 v w s j = Ideal.exp2 (k0_pay58 v w s j) := rfl

/-- The scales of the rows of x and the products. -/
theorem outScales_eq : k0_pay59 (k0_pay115 a0 a1 a2 a3) (k0_pay116 a0 a1 a2 a3) (Scalar.ofBits .f32 0x3F800000#32)
    = outScales a0 a1 a2 a3 := by
  funext y
  obtain ⟨p, rfl⟩ : ∃ p, y = (ix1 p : S1792.Idx) := ⟨y 0, eq_ix1 y⟩
  rw [scale_entry, longExponent_eq]
  rfl

/-- The multipliers of the exponents `e`. -/
def inverseOf (e : FVec Ideal S1792 .f32) : FVec Ideal S1792 .f32 :=
  select (cmpf .ogt e (broadcast S1792 (FloatOps.ofBits .f32 0x42FC0000#32)))
    (broadcast S1792 (FloatOps.ofBits .f32 0x00000000#32))
    (exp2 (subf (broadcast S1792 (FloatOps.ofBits .f32 0x00000000#32)) e))

theorem inverseOf_apply (e : FVec Ideal S1792 .f32) (j : S1792.Idx) (x : EReal) (h : e j = exponentR x) : inverseOf e j = inverseR x := by
  unfold inverseR
  rw [← h]
  rfl

/-- The rows `r` by the multipliers `s`, clipped. -/
def clippedOf (r : FVec Ideal S1792x2716 .f32) (s : FVec Ideal S1792 .f32) : FVec Ideal S1792x2716 .f32 :=
  minimumf (broadcast S1792x2716 (FloatOps.ofBits .f32 0x43E00000#32))
    (maximumf (broadcast S1792x2716 (FloatOps.ofBits .f32 0xC3E00000#32))
      (mulf r (broadcastTo S1792x2716 (shapeCast S1792x1 s shapeCasts_S1792_S1792x1) broadcasts_S1792x1_S1792x2716)))

theorem clippedOf_apply (r : FVec Ideal S1792x2716 .f32) (s : FVec Ideal S1792 .f32) (p : Fin 1792) (q : Fin 2716) :
    clippedOf r s (ix2 p q) = code (s (ix1 p)) (r (ix2 p q)) := by
  refine congrArg (fun s => code s (r (ix2 p q)))
    ((broadcastTo_apply _ broadcasts_S1792x1_S1792x2716 (ix2 p q) (ix2 p (0 : Fin 1))
      (fun a => by match a with | ⟨0, _⟩ => rfl | ⟨1, _⟩ => rfl)).trans
    (shapeCast_apply _ shapeCasts_S1792_S1792x1 (ix2 p (0 : Fin 1)) (ix1 p) ?_))
  refine (Shape.rowMajor_val_one (d := ![1792]) (ix1 p)).trans
    ((Shape.rowMajor_val_two (d := ![1792, 1]) (ix2 p (0 : Fin 1))).trans ?_).symm
  show p.val * 1 + 0 = p.val
  omega

theorem code_entry (r : FVec Ideal S1792x2716 .f32) (v w : FVec Ideal S1792 .f32) (s : Ideal .f32) (q : Fin 2716) (p : Fin 1792) :
    k0_pay60 r v w s (ix2 q p) = code (inverseOf (k0_pay58 v w s) (ix1 p)) (r (ix2 p q)) :=
  (transpose_apply _ (clippedOf r (inverseOf (k0_pay58 v w s))) transposes_S1792x2716_p1_0_S2716x1792 (ix2 q p) (ix2 p q)
    (fun b => by match b with | ⟨0, _⟩ => rfl | ⟨1, _⟩ => rfl)).trans (clippedOf_apply r _ p q)

/-- The codes of the rows of x and the products. -/
theorem outCodes_eq : k0_pay60 (rowsOf a0 a1 a2 a3) (k0_pay115 a0 a1 a2 a3) (k0_pay116 a0 a1 a2 a3) (Scalar.ofBits .f32 0x3F800000#32)
    = outCodes a0 a1 a2 a3 := by
  funext y
  obtain ⟨q, p, rfl⟩ : ∃ q p, y = (ix2 q p : S2716x1792.Idx) := ⟨y 0, y 1, eq_ix2 y⟩
  have e : rowsOf a0 a1 a2 a3 (ix2 p q) = row a0 a1 a2 a3 p q := congrFun (rows_row a0 a1 a2 a3 p) q
  rw [code_entry, e, inverseOf_apply _ _ _ (longExponent_eq a0 a1 a2 a3 p)]
  rfl

end Products

end Cert.ReferenceIdeal.Rows

end
-- ==== Proof.lean ====
/- The proof of the claims: the three programs run and keep their arguments, and the idealized kernel leaves the
   reference's five results. -/
module

public import proofs.«01_k».proof.Defs
public import proofs.«01_k».proof.Proof.HandKernel
public import proofs.«01_k».proof.Proof.PairsIdeal
public import proofs.«01_k».proof.Proof.ReferenceOut
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The printed kernel runs and keeps its arguments. -/
theorem kernel_runs : quiescent_Kernel (hKernel := Cert.Kernel.Gen.facts) := fun m g _ =>
  (θ_run _ _ _).mono (fun _ h => ⟨fun c => Cert.Kernel.Run.args_kept h.1 c, h.2⟩) (Cert.Kernel.Run.run_main m g)

/-- So does the idealized one. -/
theorem kernelIdeal_runs : quiescent_KernelIdeal (hKernelIdeal := Cert.KernelIdeal.Gen.facts) := fun m g _ =>
  (θ_run _ _ _).mono (fun _ h => ⟨fun c => Cert.KernelIdeal.Run.args_kept h.1 c, h.2⟩) (Cert.KernelIdeal.Run.run_main m g)

/-- The reference's codes are the kernel's. -/
theorem same_codes (a : Vec Ideal Cert.KernelIdeal.S1792x160 .bf16) :
    Cert.ReferenceIdeal.Gen.k0_pay62 (Cert.ReferenceIdeal.Gen.k0_pay4 a) = Cert.KernelIdeal.Rows.codesOf a := by
  funext j
  obtain ⟨k, p, rfl⟩ : ∃ k p, j = (ix2 k p : Cert.KernelIdeal.S160x1792.Idx) := ⟨j 0, j 1, eq_ix2 j⟩
  exact Cert.ReferenceIdeal.Rows.codes_eq a k p

/-- The reference's scales are the kernel's. -/
theorem same_scales (a : Vec Ideal Cert.KernelIdeal.S1792x160 .bf16) :
    Cert.ReferenceIdeal.Gen.k0_pay3 a = Cert.KernelIdeal.Rows.scalesOf a := by
  funext j
  obtain ⟨p, rfl⟩ : ∃ p, j = (ix1 p : Cert.KernelIdeal.S1792.Idx) := ⟨j 0, eq_ix1 j⟩
  exact Cert.ReferenceIdeal.Rows.scale_eq a p

section Congr

open Cert.ReferenceIdeal Cert.ReferenceIdeal.Gen Cert.ReferenceIdeal.Rows Cert.Pairs

variable {a0 b0 : Vec Ideal S1792x71x160 .i8} {a1 b1 : Vec Ideal S1792x71 .f32} {a2 b2 : Vec Ideal S1792x160 .bf16} {a3 b3 : Vec Ideal S1792x160 .i8}

/-- Of equal arguments the reference's results are these. -/
theorem reference_outCodes (h0 : a0 = b0) (h1 : a1 = b1) (h2 : a2 = b2) (h3 : a3 = b3) :
    G4 (F := Ideal) a0 a1 a2 a3 = outCodes b0 b1 b2 b3 := by
  subst h0 h1 h2 h3
  exact outCodes_eq a0 a1 a2 a3

theorem reference_outScales (h0 : a0 = b0) (h1 : a1 = b1) (h2 : a2 = b2) (h3 : a3 = b3) :
    G5 (F := Ideal) a0 a1 a2 a3 = outScales b0 b1 b2 b3 := by
  subst h0 h1 h2 h3
  exact outScales_eq a0 a1 a2 a3

theorem reference_inter (h0 : a0 = b0) (h1 : a1 = b1) (h2 : a2 = b2) (h3 : a3 = b3) :
    G6 (F := Ideal) a0 a1 a2 a3 = inter b0 b1 b2 b3 := by
  subst h0 h1 h2 h3
  exact inter_eq a0 a1 a2 a3

theorem reference_codes (h2 : a2 = b2) : G7 (F := Ideal) a0 a1 a2 a3 = Cert.KernelIdeal.Rows.codesOf b2 := by
  subst h2
  exact same_codes a2

theorem reference_scales (h2 : a2 = b2) : G8 (F := Ideal) a0 a1 a2 a3 = Cert.KernelIdeal.Rows.scalesOf b2 := by
  subst h2
  exact (xScales_eq a0 a1 a2 a3).trans (same_scales a2)

end Congr

open Cert.KernelIdeal.Rows in
/-- The idealized kernel and the reference leave the same five arrays. -/
theorem same_results : algebraic_KernelIdeal_ReferenceIdeal (hKernelIdeal := Cert.KernelIdeal.Gen.facts)
    (hReferenceIdeal := Cert.ReferenceIdeal.Gen.facts) := fun m g m' g' _ hargs =>
  ⟨fun c => Cert.Pairs.outCodes (argE m c) (argS m c) (argX m c) (argB m c),
    fun c => Cert.Pairs.outScales (argE m c) (argS m c) (argX m c) (argB m c),
    fun c => Cert.Pairs.inter (argE m c) (argS m c) (argX m c) (argB m c),
    fun c => codesOf (argX m c),
    fun c => scalesOf (argX m c),
    (θ_run _ _ _).mono (fun _ h c => ⟨(final_products h.1 c).1, (final_products h.1 c).2.1, (final_products h.1 c).2.2,
      (final h.1 c).1, (final h.1 c).2, Cert.KernelIdeal.Run.args_kept h.1 c⟩) (Cert.KernelIdeal.Run.run_main m g),
    (θ_run _ _ _).mono (fun _ h c =>
      ⟨(h c).1.trans (reference_outCodes (hargs c).1 (hargs c).2.1 (hargs c).2.2.1 (hargs c).2.2.2),
        (h c).2.1.trans (reference_outScales (hargs c).1 (hargs c).2.1 (hargs c).2.2.1 (hargs c).2.2.2),
        (h c).2.2.1.trans (reference_inter (hargs c).1 (hargs c).2.1 (hargs c).2.2.1 (hargs c).2.2.2),
        (h c).2.2.2.1.trans (reference_codes (hargs c).2.2.1),
        (h c).2.2.2.2.1.trans (reference_scales (hargs c).2.2.1), (h c).2.2.2.2.2⟩)
      (Cert.ReferenceIdeal.Rows.run m' g')⟩

theorem claim : Cert.Claim :=
  ⟨Cert.Kernel.Gen.facts, Cert.KernelIdeal.Gen.facts, Cert.ReferenceIdeal.Gen.facts, kernel_runs, kernelIdeal_runs,
    fun m g _ => Cert.ReferenceIdeal.Gen.frame m g, trivial, same_results⟩

end Cert.Proof

end
